-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def holds_ReferenceIdeal_near_exact [hReferenceIdeal : Cert.ReferenceIdeal.Facts] [hPost_near_exact : Cert.Post_near_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ (Cert.Post_near_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (r.2.mem ((c.tc : Thread Cert.ReferenceIdeal.nD Cert.ReferenceIdeal.τ).loc Cert.ReferenceIdeal.main_v37))) = (fun _ => 1#1))

def Claim : Prop :=
  ∃ (hKernel : Cert.Kernel.Facts) (hKernelIdeal : Cert.KernelIdeal.Facts) (hReferenceIdeal : Cert.ReferenceIdeal.Facts) (hPost_near_exact : Cert.Post_near_exact.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_ReferenceIdeal_near_exact (hReferenceIdeal := hReferenceIdeal) (hPost_near_exact := hPost_near_exact)
-- ==== Post_near_exact.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩
abbrev S8x512x2048 : Shape := ⟨3, ![8, 512, 2048]⟩
abbrev S8x2048 : Shape := ⟨2, ![8, 2048]⟩
abbrev S8x1x2048 : Shape := ⟨3, ![8, 1, 2048]⟩

class Facts : Prop where
  natLt_8_32 : 8 < 32
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  shapeCasts_S4096x2048_S8x512x2048 : S4096x2048.ShapeCasts S8x512x2048
  reducesTo_S8x512x2048_S8x2048_d1 : S8x512x2048.ReducesTo [1] S8x2048
  h_S_ : 0 < S_.numel
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x512x2048_0_1_2 : S8x1x2048.BroadcastsInDim S8x512x2048 (![0, 1, 2] : Fin 3 → Fin S8x512x2048.rank)
  shapeCasts_S8x512x2048_S4096x2048 : S8x512x2048.ShapeCasts S4096x2048
  bitsLt_bf16_f32 : FTy.bits .bf16 < FTy.bits .f32
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn_clip {F : FTy → Type} [FloatOps F] (arg0 : FVec F S4096x2048 .f32) (arg1 : FVec F S_ .f32) (arg2 : FVec F S_ .f32) : FVec F S4096x2048 .f32 :=
  let v0 : FVec F S_ .f32 := id arg1
  let v1 : FVec F S4096x2048 .f32 := broadcastInDim S4096x2048 ![] bcast_S_S4096x2048 v0
  let v2 : FVec F S4096x2048 .f32 := maximumf v1 arg0
  let v3 : FVec F S_ .f32 := id arg2
  let v4 : FVec F S4096x2048 .f32 := broadcastInDim S4096x2048 ![] bcast_S_S4096x2048 v3
  let v5 : FVec F S4096x2048 .f32 := minimumf v4 v2
  v5

def fn_where {F : FTy → Type} [FloatOps F] (arg0 : IVec S4096x2048 1) (arg1 : IVec S4096x2048 32) (arg2 : IVec S4096x2048 32) : IVec S4096x2048 32 :=
  let v0 : IVec S4096x2048 32 := select arg0 arg1 arg2
  v0

def fn_floor_divide {F : FTy → Type} [FloatOps F] (arg0 : IVec S4096x2048 32) (arg1 : IVec S_ 32) : IVec S4096x2048 32 :=
  let v0 : IVec S_ 32 := id arg1
  let v1 : IVec S4096x2048 32 := broadcastInDim S4096x2048 ![] bcast_S_S4096x2048 v0
  let v2 : IVec S4096x2048 32 := Host.divsi arg0 v1
  let v3 : IVec S4096x2048 32 := signi arg0
  let v4 : IVec S_ 32 := signi v0
  let v5 : IVec S4096x2048 32 := broadcastInDim S4096x2048 ![] bcast_S_S4096x2048 v4
  let v6 : IVec S4096x2048 1 := cmpi .ne v3 v5
  let v7 : IVec S4096x2048 32 := broadcastInDim S4096x2048 ![] bcast_S_S4096x2048 v0
  let v8 : IVec S4096x2048 32 := Host.remsi arg0 v7
  let c : IVec S_ 32 := constantI S_ 32 0#32
  let v9 : IVec S4096x2048 32 := broadcastInDim S4096x2048 ![] bcast_S_S4096x2048 c
  let v10 : IVec S4096x2048 1 := cmpi .ne v8 v9
  let v11 : IVec S4096x2048 1 := andi v6 v10
  let c_0 : IVec S_ 32 := constantI S_ 32 1#32
  let v12 : IVec S4096x2048 32 := broadcastInDim S4096x2048 ![] bcast_S_S4096x2048 c_0
  let v13 : IVec S4096x2048 32 := subi v2 v12
  let v14 : IVec S4096x2048 32 := fn_where (F := F) v11 v13 v2
  v14

def fn_where_0 {F : FTy → Type} [FloatOps F] (arg0 : IVec S4096x2048 1) (arg1 : FVec F S_ .f32) (arg2 : FVec F S4096x2048 .f32) : FVec F S4096x2048 .f32 :=
  let v0 : FVec F S_ .f32 := id arg1
  let v1 : FVec F S4096x2048 .f32 := broadcastInDim S4096x2048 ![] bcast_S_S4096x2048 v0
  let v2 : FVec F S4096x2048 .f32 := select arg0 v1 arg2
  v2

def fn_part2 {F : FTy → Type} [FloatOps F] (main_v34 : FVec F S4096x2048 .f32) (main_v37 : FVec F S4096x2048 .f32) : IVec S4096x2048 1 :=
  let main_v38 : IVec S4096x2048 1 := cmpf .ole main_v37 main_v34
  main_v38

def fn_part1 {F : FTy → Type} [FloatOps F] (main_arg4 : FVec F S4096x2048 .bf16) (main_v8 : FVec F S4096x2048 .f32) (main_v14 : FVec F S4096x2048 .f32) (main_v18 : FVec F S8x1x2048 .f32) (main_cst_3 : FVec F S_ .f32) : IVec S4096x2048 1 :=
  let main_v19 : FVec F S8x1x2048 .f32 := broadcastInDim S8x1x2048 ![] bcast_S_S8x1x2048 main_cst_3
  let main_v20 : FVec F S8x1x2048 .f32 := maximumf main_v18 main_v19
  let main_cst_4 : FVec F S_ .f32 := constant S_ .f32 0x3B811B1E#32
  let main_v21 : FVec F S8x1x2048 .f32 := broadcastInDim S8x1x2048 ![] bcast_S_S8x1x2048 main_cst_4
  let main_v22 : FVec F S8x1x2048 .f32 := mulf main_v20 main_v21
  let main_v23 : FVec F S8x512x2048 .f32 := broadcastInDim S8x512x2048 ![0, 1, 2] bcast_S8x1x2048_S8x512x2048_0_1_2 main_v22
  let main_v24 : FVec F S4096x2048 .f32 := shapeCast S4096x2048 main_v23 shapeCasts_S8x512x2048_S4096x2048
  let main_v25 : IVec S4096x2048 32 := iotaInDim S4096x2048 32 0
  let main_c : IVec S_ 32 := constantI S_ 32 1024#32
  let main_v26 : IVec S4096x2048 32 := fn_floor_divide (F := F) main_v25 main_c
  let main_v27 : IVec S4096x2048 32 := iotaInDim S4096x2048 32 1
  let main_c_5 : IVec S_ 32 := constantI S_ 32 512#32
  let main_v28 : IVec S4096x2048 32 := fn_floor_divide (F := F) main_v27 main_c_5
  let main_v29 : IVec S4096x2048 1 := cmpi .eq main_v26 main_v28
  let main_cst_6 : FVec F S_ .f32 := constant S_ .f32 0x00000000#32
  let main_v30 : FVec F S4096x2048 .f32 := fn_where_0 (F := F) main_v29 main_cst_6 main_v24
  let main_v31 : FVec F S4096x2048 .f32 := Host.absf main_v8
  let main_cst_7 : FVec F S_ .f32 := constant S_ .f32 0x14461206#32
  let main_v32 : FVec F S4096x2048 .f32 := broadcastInDim S4096x2048 ![] bcast_S_S4096x2048 main_cst_7
  let main_v33 : FVec F S4096x2048 .f32 := mulf main_v31 main_v32
  let main_v34 : FVec F S4096x2048 .f32 := addf main_v30 main_v33
  let main_v35 : FVec F S4096x2048 .f32 := (extf .f32 · bitsLt_bf16_f32) main_arg4
  let main_v36 : FVec F S4096x2048 .f32 := subf main_v35 main_v14
  let main_v37 : FVec F S4096x2048 .f32 := Host.absf main_v36
  fn_part2 (F := F) main_v34 main_v37

def fn {F : FTy → Type} [FloatOps F] (main_arg0 : IVec S4096x4096 8) (main_arg1 : IVec S4096x2048 8) (main_arg2 : FVec F S1 .f32) (main_arg3 : FVec F S1 .f32) (main_arg4 : FVec F S4096x2048 .bf16) : IVec S4096x2048 1 :=
  let main_v0 : IVec S4096x4096 32 := (extsi 32 · natLt_8_32) main_arg0
  let main_v1 : FVec F S4096x4096 .f32 := sitofp .f32 main_v0
  let main_v2 : IVec S4096x2048 32 := (extsi 32 · natLt_8_32) main_arg1
  let main_v3 : FVec F S4096x2048 .f32 := sitofp .f32 main_v2
  let main_v4 : FVec F S4096x2048 .f32 := (fun l r => Host.dotGeneral dot_S4096x4096_S4096x2048_S4096x2048_1_0_0_1_n_n none l r) main_v1 main_v3
  let main_v5 : FVec F S1 .f32 := mulf main_arg2 main_arg3
  let main_v6 : FVec F S1x1 .f32 := broadcastInDim S1x1 ![1] bcast_S1_S1x1_1 main_v5
  let main_v7 : FVec F S4096x2048 .f32 := broadcastInDim S4096x2048 ![0, 1] bcast_S1x1_S4096x2048_0_1 main_v6
  let main_v8 : FVec F S4096x2048 .f32 := mulf main_v4 main_v7
  let main_cst : FVec F S_ .f32 := constant S_ .f32 0xC2700000#32
  let main_cst_0 : FVec F S_ .f32 := constant S_ .f32 0x42700000#32
  let main_v9 : FVec F S4096x2048 .f32 := fn_clip (F := F) main_v8 main_cst main_cst_0
  let main_v10 : FVec F S4096x2048 .f32 := Host.negf main_v9
  let main_v11 : FVec F S4096x2048 .f32 := Host.exp main_v10
  let main_cst_1 : FVec F S_ .f32 := constant S_ .f32 0x3F800000#32
  let main_v12 : FVec F S4096x2048 .f32 := broadcastInDim S4096x2048 ![] bcast_S_S4096x2048 main_cst_1
  let main_v13 : FVec F S4096x2048 .f32 := addf main_v12 main_v11
  let main_v14 : FVec F S4096x2048 .f32 := Host.divf main_v8 main_v13
  let main_v15 : FVec F S4096x2048 .f32 := Host.absf main_v14
  let main_v16 : FVec F S8x512x2048 .f32 := shapeCast S8x512x2048 main_v15 shapeCasts_S4096x2048_S8x512x2048
  let main_cst_2 : FVec F S_ .f32 := constant S_ .f32 0xFF800000#32
  let main_v17 : FVec F S8x2048 .f32 := (fun x v => Host.reduce FloatOps.maximumf x v reducesTo_S8x512x2048_S8x2048_d1 h_S_) main_v16 main_cst_2
  let main_v18 : FVec F S8x1x2048 .f32 := broadcastInDim S8x1x2048 ![0, 2] bcast_S8x2048_S8x1x2048_0_2 main_v17
  let main_cst_3 : FVec F S_ .f32 := constant S_ .f32 0x1E3CE508#32
  fn_part1 (F := F) main_arg4 main_v8 main_v14 main_v18 main_cst_3
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S6x512x512 : Shape := ⟨3, ![6, 512, 512]⟩
abbrev S6x8x512 : Shape := ⟨3, ![6, 8, 512]⟩
abbrev S6 : Shape := ⟨1, ![6]⟩
abbrev S_ : Shape := ⟨0, ![]⟩
abbrev S512x4096 : Shape := ⟨2, ![512, 4096]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S8x512 : Shape := ⟨2, ![8, 512]⟩
abbrev S1x8x512 : Shape := ⟨3, ![1, 8, 512]⟩
abbrev S1x1x512 : Shape := ⟨3, ![1, 1, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x512, .bf16⟩
  | .local _ .vmem, ⟨0, _⟩ => ⟨S1024x4096, .i8⟩
  | .local _ .vmem, ⟨1, _⟩ => ⟨S4096x2048, .i8⟩
  | .local _ .vmem, ⟨2, _⟩ => ⟨S4096x512, .bf16⟩
  | .local _ .vmem, ⟨3, _⟩ => ⟨S6x512x512, .i8⟩
  | .local _ .vmem, ⟨4, _⟩ => ⟨S6x8x512, .f32⟩
  | .local _ .vmem, ⟨5, _⟩ => ⟨S6x512x512, .i8⟩
  | .local _ .vmem, ⟨6, _⟩ => ⟨S6x8x512, .f32⟩
  | .local _ .smem, ⟨0, _⟩ => ⟨S1, .f32⟩
  | .local _ .smem, ⟨1, _⟩ => ⟨S1, .f32⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_13 : BitVec 32) : Fin 2 → Nat :=
  let c0_17 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.addi v2 c2_i32_13
  let c4_i32_14 : BitVec 32 := 4#32
  let v20 : BitVec 32 := Scalar.remsi v19 c4_i32_14
  let c512_i32 : BitVec 32 := 512#32
  let v24 : BitVec 32 := Scalar.muli v20 c512_i32
  let v25 : Index := Scalar.indexCast v24
  ![0, v25.toNat]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let v19 : BitVec 32 := Scalar.addi v2 c2_i32_13
  let c4_i32_14 : BitVec 32 := 4#32
  let v20 : BitVec 32 := Scalar.remsi v19 c4_i32_14
  let c1_i32_34 : BitVec 32 := 1#32
  let v59 : BitVec 32 := Scalar.muli v20 c1_i32_34
  let v60 : BitVec 32 := Scalar.addi c0_i32_35 v59
  v60.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let v19 : BitVec 32 := Scalar.addi v2 c2_i32_13
  let c4_i32_14 : BitVec 32 := 4#32
  let v20 : BitVec 32 := Scalar.remsi v19 c4_i32_14
  let c1_i32_44 : BitVec 32 := 1#32
  let v69 : BitVec 32 := Scalar.muli v20 c1_i32_44
  let v70 : BitVec 32 := Scalar.addi c0_i32_45 v69
  v70.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let v19 : BitVec 32 := Scalar.addi v2 c2_i32_13
  let c4_i32_14 : BitVec 32 := 4#32
  let v20 : BitVec 32 := Scalar.remsi v19 c4_i32_14
  let c1_i32_69 : BitVec 32 := 1#32
  let v117 : BitVec 32 := Scalar.muli v20 c1_i32_69
  let v118 : BitVec 32 := Scalar.addi c0_i32_70 v117
  v118.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let v19 : BitVec 32 := Scalar.addi v2 c2_i32_13
  let c4_i32_14 : BitVec 32 := 4#32
  let v20 : BitVec 32 := Scalar.remsi v19 c4_i32_14
  let c1_i32_79 : BitVec 32 := 1#32
  let v127 : BitVec 32 := Scalar.muli v20 c1_i32_79
  let v128 : BitVec 32 := Scalar.addi c0_i32_80 v127
  v128.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v137 : BitVec 32 := Scalar.addi v2 c1_i32_85
  let c4_i32_86 : BitVec 32 := 4#32
  let v138 : BitVec 32 := Scalar.remsi v137 c4_i32_86
  let c1_i32_108 : BitVec 32 := 1#32
  let v177 : BitVec 32 := Scalar.muli v138 c1_i32_108
  let v178 : BitVec 32 := Scalar.addi c0_i32_109 v177
  v178.toNat
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v137 : BitVec 32 := Scalar.addi v2 c1_i32_85
  let c4_i32_86 : BitVec 32 := 4#32
  let v138 : BitVec 32 := Scalar.remsi v137 c4_i32_86
  let c1_i32_118 : BitVec 32 := 1#32
  let v187 : BitVec 32 := Scalar.muli v138 c1_i32_118
  let v188 : BitVec 32 := Scalar.addi c0_i32_119 v187
  v188.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v137 : BitVec 32 := Scalar.addi v2 c1_i32_85
  let c4_i32_86 : BitVec 32 := 4#32
  let v138 : BitVec 32 := Scalar.remsi v137 c4_i32_86
  let c1_i32_144 : BitVec 32 := 1#32
  let v235 : BitVec 32 := Scalar.muli v138 c1_i32_144
  let v236 : BitVec 32 := Scalar.addi c0_i32_145 v235
  v236.toNat
def k0_dev11 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v137 : BitVec 32 := Scalar.addi v2 c1_i32_85
  let c4_i32_86 : BitVec 32 := 4#32
  let v138 : BitVec 32 := Scalar.remsi v137 c4_i32_86
  let c1_i32_154 : BitVec 32 := 1#32
  let v245 : BitVec 32 := Scalar.muli v138 c1_i32_154
  let v246 : BitVec 32 := Scalar.addi c0_i32_155 v245
  v246.toNat
def k0_dev12 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_160 : BitVec 32 := 3#32
  let v255 : BitVec 32 := Scalar.addi v2 c3_i32_160
  let c4_i32_161 : BitVec 32 := 4#32
  let v256 : BitVec 32 := Scalar.remsi v255 c4_i32_161
  let c1_i32_182 : BitVec 32 := 1#32
  let v295 : BitVec 32 := Scalar.muli v256 c1_i32_182
  let v296 : BitVec 32 := Scalar.addi c0_i32_183 v295
  v296.toNat
def k0_dev13 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_160 : BitVec 32 := 3#32
  let v255 : BitVec 32 := Scalar.addi v2 c3_i32_160
  let c4_i32_161 : BitVec 32 := 4#32
  let v256 : BitVec 32 := Scalar.remsi v255 c4_i32_161
  let c1_i32_192 : BitVec 32 := 1#32
  let v305 : BitVec 32 := Scalar.muli v256 c1_i32_192
  let v306 : BitVec 32 := Scalar.addi c0_i32_193 v305
  v306.toNat
def k0_dev14 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_160 : BitVec 32 := 3#32
  let v255 : BitVec 32 := Scalar.addi v2 c3_i32_160
  let c4_i32_161 : BitVec 32 := 4#32
  let v256 : BitVec 32 := Scalar.remsi v255 c4_i32_161
  let c1_i32_217 : BitVec 32 := 1#32
  let v353 : BitVec 32 := Scalar.muli v256 c1_i32_217
  let v354 : BitVec 32 := Scalar.addi c0_i32_218 v353
  v354.toNat
def k0_dev15 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_160 : BitVec 32 := 3#32
  let v255 : BitVec 32 := Scalar.addi v2 c3_i32_160
  let c4_i32_161 : BitVec 32 := 4#32
  let v256 : BitVec 32 := Scalar.remsi v255 c4_i32_161
  let c1_i32_227 : BitVec 32 := 1#32
  let v363 : BitVec 32 := Scalar.muli v256 c1_i32_227
  let v364 : BitVec 32 := Scalar.addi c0_i32_228 v363
  v364.toNat
def k0_off2 (d0 : Dev nD) : Fin 2 → Nat :=
  let c0_236 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_235 : BitVec 32 := 512#32
  let v376 : BitVec 32 := Scalar.muli v2 c512_i32_235
  let v377 : Index := Scalar.indexCast v376
  ![0, v377.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v387 : BitVec 32 := Scalar.muli v2 c1024_i32
  let v388 : Index := Scalar.indexCast v387
  let c0_238 : Index := 0#32
  ![v388.toNat, 0]
def k0_off4 (d0 : Dev nD) (c2_i32_239 : BitVec 32) (c0_i32_269 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v390 : BitVec 32 := Scalar.subi v2 c2_i32_239
  let c4_i32_240 : BitVec 32 := 4#32
  let v391 : BitVec 32 := Scalar.addi v390 c4_i32_240
  let c4_i32_241 : BitVec 32 := 4#32
  let v392 : BitVec 32 := Scalar.remsi v391 c4_i32_241
  let c1024_i32_268 : BitVec 32 := 1024#32
  let v417 : BitVec 32 := Scalar.muli v392 c1024_i32_268
  let v418 : BitVec 32 := Scalar.addi v417 c0_i32_269
  let v419 : Index := Scalar.indexCast v418
  let c0_270 : Index := 0#32
  ![v419.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_308 : BitVec 32 := 1024#32
  let v466 : BitVec 32 := Scalar.muli v2 c1024_i32_308
  let c512_i32_309 : BitVec 32 := 512#32
  let v467 : BitVec 32 := Scalar.addi v466 c512_i32_309
  let v468 : Index := Scalar.indexCast v467
  let c0_310 : Index := 0#32
  ![v468.toNat, 0]
abbrev stage0_0 : Fin 1 → Memref sig .tc .vmem S1024x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩
abbrev S8x512x2048 : Shape := ⟨3, ![8, 512, 2048]⟩
abbrev S8x2048 : Shape := ⟨2, ![8, 2048]⟩
abbrev S8x1x2048 : Shape := ⟨3, ![8, 1, 2048]⟩

abbrev nBuf : Space → Nat
  | .hbm => 88
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S8x512x2048, .f32⟩
  | .hbm, ⟨20, _⟩ => ⟨S8x512x2048, .f32⟩
  | .hbm, ⟨21, _⟩ => ⟨S_, .f32⟩
  | .hbm, ⟨22, _⟩ => ⟨S8x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x512x2048, .f32⟩
  | .hbm, ⟨31, _⟩ => ⟨S8x512x2048, .f32⟩
  | .hbm, ⟨32, _⟩ => ⟨S8x512x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x512x2048, .f32⟩
  | .hbm, ⟨37, _⟩ => ⟨S8x512x2048, .f32⟩
  | .hbm, ⟨38, _⟩ => ⟨S_, .f32⟩
  | .hbm, ⟨39, _⟩ => ⟨S8x512x2048, .f32⟩
  | .hbm, ⟨40, _⟩ => ⟨S8x512x2048, .f32⟩
  | .hbm, ⟨41, _⟩ => ⟨S_, .f32⟩
  | .hbm, ⟨42, _⟩ => ⟨S8x1x2048, .f32⟩
  | .hbm, ⟨43, _⟩ => ⟨S8x1x2048, .f32⟩
  | .hbm, ⟨44, _⟩ => ⟨S8x512x2048, .f32⟩
  | .hbm, ⟨45, _⟩ => ⟨S8x512x2048, .f32⟩
  | .hbm, ⟨46, _⟩ => ⟨S4096x2048, .f32⟩
  | .hbm, ⟨47, _⟩ => ⟨S4096x2048, .i32⟩
  | .hbm, ⟨48, _⟩ => ⟨S_, .i32⟩
  | .hbm, ⟨49, _⟩ => ⟨S_, .i32⟩
  | .hbm, ⟨50, _⟩ => ⟨S4096x2048, .i32⟩
  | .hbm, ⟨51, _⟩ => ⟨S4096x2048, .i32⟩
  | .hbm, ⟨52, _⟩ => ⟨S4096x2048, .i32⟩
  | .hbm, ⟨53, _⟩ => ⟨S_, .i32⟩
  | .hbm, ⟨54, _⟩ => ⟨S4096x2048, .i32⟩
  | .hbm, ⟨55, _⟩ => ⟨S4096x2048, .i1⟩
  | .hbm, ⟨56, _⟩ => ⟨S4096x2048, .i32⟩
  | .hbm, ⟨57, _⟩ => ⟨S4096x2048, .i32⟩
  | .hbm, ⟨58, _⟩ => ⟨S_, .i32⟩
  | .hbm, ⟨59, _⟩ => ⟨S4096x2048, .i32⟩
  | .hbm, ⟨60, _⟩ => ⟨S4096x2048, .i1⟩
  | .hbm, ⟨61, _⟩ => ⟨S4096x2048, .i1⟩
  | .hbm, ⟨62, _⟩ => ⟨S_, .i32⟩
  | .hbm, ⟨63, _⟩ => ⟨S4096x2048, .i32⟩
  | .hbm, ⟨64, _⟩ => ⟨S4096x2048, .i32⟩
  | .hbm, ⟨65, _⟩ => ⟨S4096x2048, .i32⟩
  | .hbm, ⟨66, _⟩ => ⟨S4096x2048, .i32⟩
  | .hbm, ⟨67, _⟩ => ⟨S_, .i32⟩
  | .hbm, ⟨68, _⟩ => ⟨S_, .i32⟩
  | .hbm, ⟨69, _⟩ => ⟨S4096x2048, .i32⟩
  | .hbm, ⟨70, _⟩ => ⟨S4096x2048, .i32⟩
  | .hbm, ⟨71, _⟩ => ⟨S4096x2048, .i32⟩
  | .hbm, ⟨72, _⟩ => ⟨S_, .i32⟩
  | .hbm, ⟨73, _⟩ => ⟨S4096x2048, .i32⟩
  | .hbm, ⟨74, _⟩ => ⟨S4096x2048, .i1⟩
  | .hbm, ⟨75, _⟩ => ⟨S4096x2048, .i32⟩
  | .hbm, ⟨76, _⟩ => ⟨S4096x2048, .i32⟩
  | .hbm, ⟨77, _⟩ => ⟨S_, .i32⟩
  | .hbm, ⟨78, _⟩ => ⟨S4096x2048, .i32⟩
  | .hbm, ⟨79, _⟩ => ⟨S4096x2048, .i1⟩
  | .hbm, ⟨80, _⟩ => ⟨S4096x2048, .i1⟩
  | .hbm, ⟨81, _⟩ => ⟨S_, .i32⟩
  | .hbm, ⟨82, _⟩ => ⟨S4096x2048, .i32⟩
  | .hbm, ⟨83, _⟩ => ⟨S4096x2048, .i32⟩
  | .hbm, ⟨84, _⟩ => ⟨S4096x2048, .i32⟩
  | .hbm, ⟨85, _⟩ => ⟨S4096x2048, .i1⟩
  | .hbm, ⟨86, _⟩ => ⟨S4096x2048, .f32⟩
  | .hbm, ⟨87, _⟩ => ⟨S4096x2048, .bf16⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v32 : Ref sig .tc := ⟨.hbm, 65, rfl⟩
abbrev main_v33 : Ref sig .tc := ⟨.hbm, 66, rfl⟩
abbrev main_c_6 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_c : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_0 : Ref sig .tc := ⟨.hbm, 81, rfl⟩
abbrev main_call3_v12 : Ref sig .tc := ⟨.hbm, 82, rfl⟩
abbrev main_call3_v13 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩

abbrev nD : Nat := 1
abbrev τ : Topo := Topo.v7x

variable {F : FTy → Type} [FloatOps F]
-- ==== Proof.Same.lean ====
/-
# One program, printed twice

With no rewrites the idealised kernel is the kernel: the two modules are the same text, and so the same program over any
reading of the floats.
-/
module

public import proofs.«01_k».proof.Proof.Gen.Kernel
public import proofs.«01_k».proof.Proof.Gen.KernelIdeal

@[expose] public section

namespace Cert.Exchange

open Idealize.ShloMosaic

variable {F : FTy → Type} [FloatOps F]

set_option maxHeartbeats 1000000 in
theorem same_table : Cert.Kernel.defs₀ (F := F) = Cert.KernelIdeal.defs₀ (F := F) := by
  funext p l a
  cases p
  · obtain rfl : l = (0 : Fin 1) := Subsingleton.elim _ _
    rfl
  all_goals rfl

theorem same_defs : Cert.Kernel.defs (F := F) = Cert.KernelIdeal.defs (F := F) :=
  congrArg (Pipeline.defs (Cert.KernelIdeal.pcfgs (F := F))) same_table

theorem same_main : Cert.Kernel.main (F := F) = Cert.KernelIdeal.main (F := F) := rfl

end Cert.Exchange
-- ==== Proof.Slots.lean ====
/-
# The exchange's devices, slots and semaphores

Each device sends three blocks, one to each of the other devices, and each block goes in two halves of 512 rows.
A half travels through one of six slots: slot `s` carries half `s % 2` of the block for the device `s / 2 + 1` places
further on. This file names the device a slot goes to and the one it comes from, the part of each scratch buffer that is
slot `s`, and the four semaphores of slot `s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

set_option backward.proofsInPublic true in
/-- The device `k` places after `c`. -/
def shift (c : Dev nD) (k : ℕ) : Dev nD := ⟨(c.val + k) % 4, Nat.mod_lt _ (by decide)⟩

/-- The device that slot `s` of device `c` goes to. -/
abbrev target (s : Fin 6) (c : Dev nD) : Dev nD := shift c (s.val / 2 + 1)
/-- The device that slot `s` of device `c` is filled by. -/
abbrev origin (s : Fin 6) (c : Dev nD) : Dev nD := shift c (3 - s.val / 2)

theorem origin_target (s : Fin 6) (c : Dev nD) : origin s (target s c) = c := by revert s c; decide
theorem target_origin (s : Fin 6) (c : Dev nD) : target s (origin s c) = c := by revert s c; decide
theorem target_ne (s : Fin 6) (c : Dev nD) : target s c ≠ c := by revert s c; decide

/-- Sending through slot `s`, as a permutation of the devices. -/
def route (s : Fin 6) : Dev nD ≃ Dev nD := ⟨target s, origin s, origin_target s, target_origin s⟩

/-! ## Slots of the scratch buffers -/

theorem codes_inb (s : Fin 6) : ∀ a, (![s.val, 0, 0] : Fin 3 → ℕ) a + S1x512x512.size a ≤ S6x512x512.size a := by revert s; decide
theorem scales_inb (s : Fin 6) : ∀ a, (![s.val, 0, 0] : Fin 3 → ℕ) a + S1x8x512.size a ≤ S6x8x512.size a := by revert s; decide
theorem row_inb (s : Fin 6) : ∀ a, (![s.val, 0, 0] : Fin 3 → ℕ) a + S1x1x512.size a ≤ S6x8x512.size a := by revert s; decide
theorem sem_inb (s : Fin 6) : ∀ a, (![s.val] : Fin 1 → ℕ) a + S1.size a ≤ S6.size a := by revert s; decide

abbrev codesRect (s : Fin 6) : Rect S6x512x512 := Rect.unit (s := S6x512x512) ![s.val, 0, 0] S1x512x512.size (codes_inb s)
abbrev scalesRect (s : Fin 6) : Rect S6x8x512 := Rect.unit (s := S6x8x512) ![s.val, 0, 0] S1x8x512.size (scales_inb s)
abbrev rowRect (s : Fin 6) : Rect S6x8x512 := Rect.unit (s := S6x8x512) ![s.val, 0, 0] S1x1x512.size (row_inb s)

/-- The codes about to be sent, the scales about to be sent, the codes received and the scales received. -/
abbrev codesOut : Memref sig .tc .vmem S6x512x512 .i8 := Memref.whole cc0_scratch0
abbrev scalesOut : Memref sig .tc .vmem S6x8x512 .f32 := Memref.whole cc0_scratch1
abbrev codesIn : Memref sig .tc .vmem S6x512x512 .i8 := Memref.whole cc0_scratch2
abbrev scalesIn : Memref sig .tc .vmem S6x8x512 .f32 := Memref.whole cc0_scratch3

/-- Slot `s` of a buffer of codes. -/
abbrev codesSlot (b : Memref sig .tc .vmem S6x512x512 .i8) (s : Fin 6) : Memref sig .tc .vmem S512x512 .i8 :=
  (b.slice (codesRect s) (fun _ => rfl)).squeeze S512x512 squeezes_S1x512x512_S512x512
/-- Slot `s` of a buffer of scales. -/
abbrev scalesSlot (b : Memref sig .tc .vmem S6x8x512 .f32) (s : Fin 6) : Memref sig .tc .vmem S8x512 .f32 :=
  (b.slice (scalesRect s) (fun _ => rfl)).squeeze S8x512 squeezes_S1x8x512_S8x512

/-! ## Semaphores -/

/-- The runtime's barrier semaphore. -/
abbrev barrierSem : Sem sig := (SemArray.scalar (sig.barrier 0 rfl) : Sems sig S_).sem

/-- Slot `s`'s semaphore of an array of six. -/
abbrev slotSem (b : DmaSems sig S6) (s : Fin 6) : DmaSem sig :=
  ((b.slice (Rect.unit (s := S6) ![s.val] S1.size (sem_inb s))).squeeze S_ squeezes_S1_S_).sem

/-- The four arrays: codes sent, codes received, scales sent, scales received. -/
abbrev semArray : Fin 4 → DmaSems sig S6 := fun | 0 => cc0_scratch4 | 1 => cc0_scratch5 | 2 => cc0_scratch6 | 3 => cc0_scratch7

/-- A transfer semaphore of a device: which array, which slot. -/
abbrev Xfer : Type := Fin 4 × Fin 6
abbrev xferSem (k : Xfer) : SemLoc sig := .dma (slotSem (semArray k.1) k.2)
/-- The semaphores of a device that the exchange uses: the barrier's, and the transfers'. -/
abbrev cellSem : Option Xfer → SemLoc sig := fun | none => .reg barrierSem | some k => xferSem k
abbrev cell (x : Dev nD × Option Xfer) : GSem nD τ sig := ((x.1 : Thread nD τ), cellSem x.2)

/-- Which of the exchange's semaphores one is, if any. -/
def role : SemLoc sig → Option (Option Xfer)
  | .reg q => if q = barrierSem then some none else none
  | .dma q => if 5 ≤ q.val then some (some (⟨(q.val - 5) / 6 % 4, Nat.mod_lt _ (by decide)⟩, ⟨(q.val - 5) % 6, Nat.mod_lt _ (by decide)⟩)) else none

theorem role_cellSem (i : Option Xfer) : role (cellSem i) = some i := by revert i; decide +kernel
theorem cellSem_injective : Function.Injective cellSem := fun i j h => Option.some.inj (by rw [← role_cellSem, ← role_cellSem, h])
theorem cell_injective : Function.Injective cell := fun x y h => by
  obtain ⟨h₁, h₂⟩ := Prod.mk.inj h
  exact Prod.ext (Prod.mk.inj h₁).1 (cellSem_injective h₂)

/-- What a transfer semaphore counts for one slot. -/
abbrev codesCredit : ℕ := (codesSlot codesIn 0).view.dmaCredit
abbrev scalesCredit : ℕ := (scalesSlot scalesIn 0).view.dmaCredit
theorem codesCredit_pos : 0 < codesCredit := View.dmaCredit_pos _ (by decide)
theorem scalesCredit_pos : 0 < scalesCredit := View.dmaCredit_pos _ (by decide)

/-- What one payment to a cell adds to it. -/
def pay : Option Xfer → ℕ
  | none => 1
  | some (0, _) => codesCredit
  | some (1, _) => codesCredit
  | some (2, _) => scalesCredit
  | some (3, _) => scalesCredit

theorem pay_pos (i : Option Xfer) : 0 < pay i := by
  rcases i with _ | ⟨a, s⟩
  · exact Nat.one_pos
  · fin_cases a <;> first | exact codesCredit_pos | exact scalesCredit_pos

end Cert.Exchange
-- ==== Proof.Contents.lean ====
/-
# What the buffers hold

The arrays a device works on, the codes and scales it sends through each slot, and the result it is left with, as
functions of the memory at launch and over any reading of the floats. The bodies of the sends and of the copies out are
the same text six times over; here they are stated once.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## The staged arrays -/

abbrev xM : Memref sig .tc .vmem S1024x4096 .i8 := Memref.whole cc0_stg0_0
abbrev wM : Memref sig .tc .vmem S4096x2048 .i8 := Memref.whole cc0_stg1_0
abbrev sxM : Memref sig .tc .smem S1 .f32 := Memref.whole cc0_stg2_0
abbrev swM : Memref sig .tc .smem S1 .f32 := Memref.whole cc0_stg3_0
abbrev outM : Memref sig .tc .vmem S4096x512 .bf16 := Memref.whole cc0_stg4_0

def xIn (c : Dev nD) : (cc0_stg0_0 : Ref sig .tc).ty.Contents (Elt F) := (win0_0.blk (0 : Fin 1)).view.read (Elt F) (m ((c : Thread nD τ).loc main_arg0))
def wIn (c : Dev nD) : (cc0_stg1_0 : Ref sig .tc).ty.Contents (Elt F) := (win0_1.blk (0 : Fin 1)).view.read (Elt F) (m ((c : Thread nD τ).loc main_arg1))
def sxIn (c : Dev nD) : (cc0_stg2_0 : Ref sig .tc).ty.Contents (Elt F) := (win0_2.blk (0 : Fin 1)).view.read (Elt F) (m ((c : Thread nD τ).loc main_arg2))
def swIn (c : Dev nD) : (cc0_stg3_0 : Ref sig .tc).ty.Contents (Elt F) := (win0_3.blk (0 : Fin 1)).view.read (Elt F) (m ((c : Thread nD τ).loc main_arg3))

/-! ## Rows of the left operand, columns of the right one, the scale -/

theorem rows_inb (h : Fin 2) : ∀ a, (![512 * h.val, 0] : Fin 2 → ℕ) a + S512x4096.size a ≤ S1024x4096.size a := by revert h; decide
theorem cols_inb (e : Dev nD) : ∀ a, (![0, 512 * e.val] : Fin 2 → ℕ) a + S4096x512.size a ≤ S4096x2048.size a := by revert e; decide

/-- Half `h` of a device's rows. -/
def xRows (c : Dev nD) (h : Fin 2) : Vec F S512x4096 .i8 :=
  xM.view.readAt (Elt F) (Rect.unit (s := S1024x4096) ![512 * h.val, 0] S512x4096.size (rows_inb h)).toLoadRect (xIn m c)
/-- The columns whose results device `e` keeps. -/
def wCols (c e : Dev nD) : Vec F S4096x512 .i8 :=
  wM.view.readAt (Elt F) (Rect.unit (s := S4096x2048) ![0, 512 * e.val] S4096x512.size (cols_inb e)).toLoadRect (wIn m c)

abbrev oneRect : Rect S1 := Rect.unit (s := S1) ![0] S1.size inb_S1_S1_0
abbrev theOne : oneRect.shape.Idx := Shape.Idx.first ((numel1_S1 : oneRect.shape.numel = 1).symm ▸ Nat.one_pos)
/-- The product of the two scales. -/
def scale (c : Dev nD) : F .f32 := k0_pay1 ((sxM.access oneRect).read (Elt F) (sxIn m c) theOne) ((swM.access oneRect).read (Elt F) (swIn m c) theOne)

/-! ## What travels -/

/-- The half of a device's rows that slot `s` carries. -/
abbrev half (s : Fin 6) : Fin 2 := ⟨s.val % 2, Nat.mod_lt _ (by decide)⟩

/-- The activation that slot `s` of device `c` carries, before it is quantised. -/
def sentAct (c : Dev nD) (s : Fin 6) : FVec F S512x512 .f32 := k0_pay2 (xRows m c (half s)) (wCols m c (target s c))
def sentCodes (c : Dev nD) (s : Fin 6) : Vec F S1x512x512 .i8 := k0_pay5 (scale m c) (sentAct m c s)
def sentScales (c : Dev nD) (s : Fin 6) : Vec F S1x8x512 .f32 := k0_pay6 (scale m c) (sentAct m c s)

set_option backward.proofsInPublic true in
/-- The first of the eight equal rows of scales. -/
def firstRow (v : Vec F S1x8x512 .f32) : Vec F S1x1x512 .f32 := fun i => v (fun | 0 => (0 : Fin 1) | 1 => (0 : Fin 8) | 2 => (i 2 : Fin 512))

/-- What device `c` makes of the block it receives through slot `s`. -/
def received (c : Dev nD) (s : Fin 6) : FVec F S512x512 .bf16 := k0_pay34 (sentCodes m (origin s c) s) (firstRow (sentScales m (origin s c) s))
/-- Half `h` of device `c`'s own block. -/
def kept (c : Dev nD) (h : Fin 2) : FVec F S512x512 .bf16 := k0_pay36 (scale m c) (xRows m c h) (wCols m c c)

/-! ## The result -/

set_option backward.proofsInPublic true in
/-- The slot through which device `c` gets its block `b` of 512 rows. -/
def slotOf (c : Dev nD) (b : Fin 8) : Fin 6 := ⟨(2 * ((c.val + 3 - b.val / 2) % 4) + b.val % 2) % 6, Nat.mod_lt _ (by decide)⟩

/-- The block of rows that slot `s` of device `c` fills. -/
abbrev rowsOf (c : Dev nD) (s : Fin 6) : ℕ := 2 * (origin s c).val + s.val % 2

/-- Block `b` of 512 rows of device `c`'s result. -/
def outBlock (c : Dev nD) (b : Fin 8) : FVec F S512x512 .bf16 :=
  if b.val / 2 = c.val then kept m c ⟨b.val % 2, Nat.mod_lt _ (by decide)⟩ else received m c (slotOf c b)

theorem slotOf_rowsOf (c : Dev nD) (s : Fin 6) (b : Fin 8) (hb : b.val = rowsOf c s) : b.val / 2 ≠ c.val ∧ slotOf c b = s := by
  revert c s b; decide

theorem outBlock_received (c : Dev nD) (s : Fin 6) (b : Fin 8) (hb : b.val = rowsOf c s) : outBlock m c b = received m c s := by
  obtain ⟨h₁, h₂⟩ := slotOf_rowsOf c s b hb
  unfold outBlock; rw [if_neg h₁, h₂]

theorem outBlock_kept (c : Dev nD) (h : Fin 2) (b : Fin 8) (hb : b.val = 2 * c.val + h.val) : outBlock m c b = kept m c h := by
  have h₁ : b.val / 2 = c.val := by omega
  have h₂ : (⟨b.val % 2, Nat.mod_lt _ (by decide)⟩ : Fin 2) = h := Fin.ext (by simp only; omega)
  unfold outBlock; rw [if_pos h₁, h₂]

set_option backward.proofsInPublic true in
/-- The block of 512 rows an index of the result lies in, -/
def blockOf (i : S4096x512.Idx) : Fin 8 := ⟨(i 0).val / 512, Nat.div_lt_of_lt_mul (i 0).isLt⟩
set_option backward.proofsInPublic true in
/-- and its place in that block. -/
def placeIn (i : S4096x512.Idx) : S512x512.Idx := fun | 0 => ⟨(i 0).val % 512, Nat.mod_lt _ (by decide)⟩ | 1 => (i 1 : Fin 512)

/-- Device `c`'s result. -/
def outAt (c : Dev nD) : (cc0_stg4_0 : Ref sig .tc).ty.Contents (Elt F) := fun i => outBlock m c (blockOf i) (placeIn i)

/-! ## The repeated bodies -/

section Repeats
variable (a : F .f32) (x : Vec F S512x4096 .i8) (w : Vec F S4096x512 .i8)

theorem codes_first : k0_pay10 (k0_pay9 a x w) (Scalar.ofBits .f32 0xC2FE0000#32) = k0_pay5 a (k0_pay2 x w) := rfl
theorem scales_first : k0_pay11 (k0_pay8 a x w) = k0_pay6 a (k0_pay2 x w) := rfl
theorem codes_second : k0_pay14 a x w = k0_pay5 a (k0_pay2 x w) := rfl
theorem scales_second : k0_pay16 (k0_pay15 a x w) = k0_pay6 a (k0_pay2 x w) := rfl
theorem codes_third : k0_pay20 a (k0_pay17 x) w = k0_pay5 a (k0_pay2 x w) := rfl
theorem scales_third : k0_pay21 a (k0_pay17 x) w = k0_pay6 a (k0_pay2 x w) := rfl
theorem codes_fourth : k0_pay25 (k0_pay22 a x w) (k0_pay23 a x w) (k0_pay24 (F := F)) = k0_pay5 a (k0_pay2 x w) := rfl
theorem scales_fourth : k0_pay26 (k0_pay23 a x w) = k0_pay6 a (k0_pay2 x w) := rfl
theorem codes_fifth : k0_pay29 a x w = k0_pay5 a (k0_pay2 x w) := rfl
theorem scales_fifth : k0_pay31 (k0_pay30 a x w) = k0_pay6 a (k0_pay2 x w) := rfl
theorem own_first : k0_pay33 a (k0_pay32 x) w = k0_pay36 a x w := rfl

end Repeats

/-! ## Reading and writing slots -/

/-- Contents of a buffer of codes that hold `w` in slot `s`. -/
def HasCodes (b : Memref sig .tc .vmem S6x512x512 .i8) (s : Fin 6) (w : Vec F S1x512x512 .i8) (f : b.view.ty.Contents (Elt F)) : Prop :=
  b.view.readAt (Elt F) (codesRect s).toLoadRect f = w
/-- Contents of a buffer of scales that hold `w` in slot `s`. -/
def HasScales (b : Memref sig .tc .vmem S6x8x512 .f32) (s : Fin 6) (w : Vec F S1x8x512 .f32) (f : b.view.ty.Contents (Elt F)) : Prop :=
  b.view.readAt (Elt F) (scalesRect s).toLoadRect f = w

theorem hasCodes_store (b : Memref sig .tc .vmem S6x512x512 .i8) (s : Fin 6) {v : Vec F S1x512x512 .i8} (w : Vec F S1x512x512 .i8) (h : v = w) (f : b.view.ty.Contents (Elt F)) :
    HasCodes b s w ((b.access (codesRect s)).write (Elt F) f v Finset.univ) := h ▸ View.read_write_univ (v := b.view.slice (codesRect s)) f v
theorem hasScales_store (b : Memref sig .tc .vmem S6x8x512 .f32) (s : Fin 6) {v : Vec F S1x8x512 .f32} (w : Vec F S1x8x512 .f32) (h : v = w) (f : b.view.ty.Contents (Elt F)) :
    HasScales b s w ((b.access (scalesRect s)).write (Elt F) f v Finset.univ) := h ▸ View.read_write_univ (v := b.view.slice (scalesRect s)) f v

/-- What a transfer writes into a slot is what the source slot held. -/
theorem hasCodes_transfer (b b' : Memref sig .tc .vmem S6x512x512 .i8) (s : Fin 6) (w : Vec F S1x512x512 .i8) (f : b.view.ty.Contents (Elt F))
    (g : b'.view.ty.Contents (Elt F)) (hf : HasCodes b s w f) :
    HasCodes b' s w ((codesSlot b' s).view.write (Elt F) g ((codesSlot b s).view.read (Elt F) f) Finset.univ) := by
  refine Eq.trans (funext fun y => ?_) hf
  obtain ⟨z, rfl⟩ := (Shape.reshapeEquiv squeezes_S1x512x512_S512x512.numel_eq).surjective y
  exact congrFun (View.read_write_univ (v := (codesSlot b' s).view) g ((codesSlot b s).view.read (Elt F) f)) z
theorem hasScales_transfer (b b' : Memref sig .tc .vmem S6x8x512 .f32) (s : Fin 6) (w : Vec F S1x8x512 .f32) (f : b.view.ty.Contents (Elt F))
    (g : b'.view.ty.Contents (Elt F)) (hf : HasScales b s w f) :
    HasScales b' s w ((scalesSlot b' s).view.write (Elt F) g ((scalesSlot b s).view.read (Elt F) f) Finset.univ) := by
  refine Eq.trans (funext fun y => ?_) hf
  obtain ⟨z, rfl⟩ := (Shape.reshapeEquiv squeezes_S1x8x512_S8x512.numel_eq).surjective y
  exact congrFun (View.read_write_univ (v := (scalesSlot b' s).view) g ((scalesSlot b s).view.read (Elt F) f)) z

/-- A load of the first row of a slot of scales. -/
theorem readAt_row (s : Fin 6) (w : Vec F S1x8x512 .f32) (f : scalesIn.view.ty.Contents (Elt F)) (hf : HasScales scalesIn s w f) :
    scalesIn.view.readAt (Elt F) (rowRect s).toLoadRect f = firstRow w := by
  subst hf
  funext i
  refine congrArg f (funext fun a => Fin.ext ?_)
  have h₀ : (i 0).val = 0 := Nat.lt_one_iff.mp (i 0).isLt
  have h₁ : (i 1).val = 0 := Nat.lt_one_iff.mp (i 1).isLt
  match a with
  | ⟨0, _⟩ => show s.val + 1 * (i 0).val = s.val + 1 * 0; omega
  | ⟨1, _⟩ => show 0 + 1 * (i 1).val = 0 + 1 * 0; omega
  | ⟨2, _⟩ => rfl

/-! ## Filling the result, block after block -/

theorem block_inb (b : Fin 8) : ∀ a, (![512 * b.val, 0] : Fin 2 → ℕ) a + S512x512.size a ≤ S4096x512.size a := by revert b; decide
abbrev blockRect (b : Fin 8) : Rect S4096x512 := Rect.unit (s := S4096x512) ![512 * b.val, 0] S512x512.size (block_inb b)

/-- Contents that agree with device `c`'s result on the blocks of `B`. -/
def Filled (c : Dev nD) (B : Finset (Fin 8)) (f : outM.view.ty.Contents (Elt F)) : Prop :=
  ∀ i : S4096x512.Idx, blockOf i ∈ B → f i = outAt m c i

theorem filled_empty (c : Dev nD) (f : outM.view.ty.Contents (Elt F)) : Filled m c ∅ f := fun _ hb => absurd hb (Finset.notMem_empty _)

theorem filled_univ (c : Dev nD) (f : outM.view.ty.Contents (Elt F)) (h : Filled m c Finset.univ f) : f = outAt m c :=
  funext fun i => h i (Finset.mem_univ _)

theorem filled_store (c : Dev nD) (B : Finset (Fin 8)) (b : Fin 8) (w : FVec F S512x512 .bf16) (hw : w = outBlock m c b)
    (f : outM.view.ty.Contents (Elt F)) (h : Filled m c B f) :
    Filled m c (insert b B) ((outM.access (blockRect b)).write (Elt F) f w Finset.univ) := by
  intro i hi
  by_cases hbb : blockOf i = b
  · have hlt : (i 0).val < 4096 := (i 0).isLt
    have hd : (i 0).val / 512 = b.val := congrArg Fin.val hbb
    have hx : (blockRect b).emb (placeIn i) = i := funext fun a => Fin.ext (by
      match a with
      | ⟨0, _⟩ => show 512 * b.val + 1 * ((i 0).val % 512) = (i 0).val; omega
      | ⟨1, _⟩ => show 0 + 1 * (i 1).val = (i 1).val; omega)
    have hr := View.read_slice_write_emb (v := outM.view) (blockRect b) f w (M := Finset.univ) (x := placeIn i) (Finset.mem_univ _)
    refine (congrFun (View.read_whole cc0_stg4_0 _) i).symm.trans ((congrArg _ hx.symm).trans (hr.trans ?_))
    unfold outAt
    rw [hbb, hw]
  · have hr := View.read_slice_write_of_not_mem (v := outM.view) (blockRect b) f w Finset.univ (y := i) (by
      intro hm
      obtain ⟨x, -, hx⟩ := Finset.mem_map.mp hm
      have h0 : 512 * b.val + 1 * (x 0).val = (i 0).val := congrArg Fin.val (congrFun hx 0)
      have hx0 : (x 0).val < 512 := (x 0).isLt
      exact hbb (Fin.ext (show (i 0).val / 512 = b.val by omega)))
    exact (congrFun (View.read_whole cc0_stg4_0 _) i).symm.trans (hr.trans (h i ((Finset.mem_insert.mp hi).resolve_left hbb)))

end Cert.Exchange
-- ==== Proof.Schedule.lean ====
/-
# The protocol

Every semaphore of the exchange is used for one round. A device's barrier semaphore has three duties in it, one for each
other device; with its duty a device hands over the two slots of its landing buffers that the owner of the semaphore will
send into. A transfer semaphore has one duty, of the bytes of one slot: a send semaphore's hands the source slot back, a
receive semaphore's hands over the landing slot together with what it now holds. This file states that schedule, what each
device owes at launch, and the levels that order the waits.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## A slot, owned -/

/-- Slot `s` of a buffer of codes on device `c`, holding `f`. -/
def codesPts (b : Memref sig .tc .vmem S6x512x512 .i8) (c : Dev nD) (s : Fin 6) (f : Buf (Elt F) ((codesSlot b s).view.loc (c : Thread nD τ))) : sProp 𝕄 :=
  (codesSlot b s).view.loc (c : Thread nD τ) ↦[(codesSlot b s).view.set]{fullShare} f
/-- Slot `s` of a buffer of scales on device `c`, holding `f`. -/
def scalesPts (b : Memref sig .tc .vmem S6x8x512 .f32) (c : Dev nD) (s : Fin 6) (f : Buf (Elt F) ((scalesSlot b s).view.loc (c : Thread nD τ))) : sProp 𝕄 :=
  (scalesSlot b s).view.loc (c : Thread nD τ) ↦[(scalesSlot b s).view.set]{fullShare} f

omit [FloatOps F] in
instance codesPts_storable (b) (c : Dev nD) (s f) : BI.Storable (upEmb : UEmb _ 𝕄) (codesPts (F := F) b c s f) := by unfold codesPts; infer_instance
omit [FloatOps F] in
instance scalesPts_storable (b) (c : Dev nD) (s f) : BI.Storable (upEmb : UEmb _ 𝕄) (scalesPts (F := F) b c s f) := by unfold scalesPts; infer_instance

/-- Slot `s` at some contents. -/
def codesAny (b : Memref sig .tc .vmem S6x512x512 .i8) (c : Dev nD) (s : Fin 6) : sProp 𝕄 := iprop(∃ f, codesPts b c s f)
def scalesAny (b : Memref sig .tc .vmem S6x8x512 .f32) (c : Dev nD) (s : Fin 6) : sProp 𝕄 := iprop(∃ f, scalesPts b c s f)
/-- Slot `s` holding the given codes, or scales. -/
def codesAre (b : Memref sig .tc .vmem S6x512x512 .i8) (c : Dev nD) (s : Fin 6) (w : Vec F S1x512x512 .i8) : sProp 𝕄 :=
  iprop(∃ f, ⌜HasCodes b s w f⌝ ∗ codesPts b c s f)
def scalesAre (b : Memref sig .tc .vmem S6x8x512 .f32) (c : Dev nD) (s : Fin 6) (w : Vec F S1x8x512 .f32) : sProp 𝕄 :=
  iprop(∃ f, ⌜HasScales b s w f⌝ ∗ scalesPts b c s f)

omit [FloatOps F] in
instance codesAny_storable (b) (c : Dev nD) (s) : BI.Storable (upEmb : UEmb _ 𝕄) (codesAny (F := F) b c s) := by unfold codesAny; infer_instance
omit [FloatOps F] in
instance scalesAny_storable (b) (c : Dev nD) (s) : BI.Storable (upEmb : UEmb _ 𝕄) (scalesAny (F := F) b c s) := by unfold scalesAny; infer_instance
omit [FloatOps F] in
instance codesAre_storable (b) (c : Dev nD) (s w) : BI.Storable (upEmb : UEmb _ 𝕄) (codesAre (F := F) b c s w) := by unfold codesAre; infer_instance
omit [FloatOps F] in
instance scalesAre_storable (b) (c : Dev nD) (s w) : BI.Storable (upEmb : UEmb _ 𝕄) (scalesAre (F := F) b c s w) := by unfold scalesAre; infer_instance

/-! ## What the payments hand over -/

/-- The two halves of a block: slots `2 j` and `2 j + 1`. -/
abbrev slotAt (j : Fin 3) (h : Fin 2) : Fin 6 := ⟨2 * j.val + h.val, by omega⟩

/-- The landing slot `s` of device `p`. -/
def landing (p : Dev nD) (s : Fin 6) : sProp 𝕄 := iprop(codesAny codesIn p s ∗ scalesAny scalesIn p s)
/-- Duty `j` of device `c`'s barrier: the landing slots, on the device `j + 1` places further, of the block for it. -/
def barrierPay (c : Dev nD) (j : Fin 3) : sProp 𝕄 := iprop(landing (shift c (j.val + 1)) (slotAt j 0) ∗ landing (shift c (j.val + 1)) (slotAt j 1))

omit [FloatOps F] in
instance landing_storable (p : Dev nD) (s) : BI.Storable (upEmb : UEmb _ 𝕄) (landing (F := F) p s) := by unfold landing; infer_instance
omit [FloatOps F] in
instance barrierPay_storable (p : Dev nD) (j) : BI.Storable (upEmb : UEmb _ 𝕄) (barrierPay (F := F) p j) := by unfold barrierPay; infer_instance

/-- What the duty of a transfer semaphore hands its owner. -/
def xferPay (c : Dev nD) : Xfer → sProp 𝕄
  | (0, s) => codesAny codesOut c s
  | (1, s) => codesAre codesIn c s (sentCodes m (origin s c) s)
  | (2, s) => scalesAny scalesOut c s
  | (3, s) => scalesAre scalesIn c s (sentScales m (origin s c) s)

instance xferPay_storable (c : Dev nD) (k : Xfer) : BI.Storable (upEmb : UEmb _ 𝕄) (xferPay m c k) := by
  obtain ⟨a, s⟩ := k
  fin_cases a <;> (dsimp only [xferPay]; infer_instance)

/-- What duty `d` of one of device `c`'s semaphores hands it. -/
def cellPay (c : Dev nD) (d : Fin 3) : Option Xfer → sProp 𝕄
  | none => barrierPay c d
  | some k => xferPay m c k

instance cellPay_storable (c : Dev nD) (d : Fin 3) (i : Option Xfer) : BI.Storable (upEmb : UEmb _ 𝕄) (cellPay m c d i) := by
  cases i <;> (dsimp only [cellPay]; infer_instance)

/-- The duties of a semaphore: three for the barrier, one for a transfer. -/
def cellDuties : Option Xfer → Finset (Fin 3)
  | none => Finset.univ
  | some _ => {0}

/-! ## The schedule -/

def sched : Rounds.Schedule (GSem nD τ sig) (Fin 3) 𝕄 where
  duties g r := if r = 0 ∧ g.1.2 = .tc then (role g.2).elim ∅ cellDuties else ∅
  unitless _ := False
  amount g _ _ := (role g.2).elim 1 pay
  payload g _ d := (role g.2).elim iprop(emp) (cellPay m g.1.1 d)
  amount_pos g _ _ _ := by
    cases role g.2 with
    | none => exact Nat.one_pos
    | some i => exact pay_pos i

instance sched_payload_storable (g : GSem nD τ sig) (r : ℕ) (d : Fin 3) : BI.Storable (upEmb : UEmb _ 𝕄) ((sched (F := F) m).payload g r d) := by
  show BI.Storable upEmb ((role g.2).elim iprop(emp) (cellPay m g.1.1 d))
  cases role g.2 with
  | none => dsimp only [Option.elim]; infer_instance
  | some i => dsimp only [Option.elim]; infer_instance

section Sched
variable (c : Dev nD) (i : Option Xfer)

theorem duties_cell : (sched (F := F) m).duties (cell (c, i)) 0 = cellDuties i := by
  show (if (0 = 0 ∧ (cell (c, i)).1.2 = .tc) then (role (cellSem i)).elim ∅ cellDuties else ∅) = _
  rw [if_pos ⟨rfl, rfl⟩, role_cellSem]; rfl
theorem duties_later (g : GSem nD τ sig) : ∀ r, 1 ≤ r → (sched (F := F) m).duties g r = ∅ :=
  fun r hr => if_neg fun h => by omega
theorem amount_cell (d : Fin 3) : (sched (F := F) m).amount (cell (c, i)) 0 d = pay i := by
  show (role (cellSem i)).elim 1 pay = _
  rw [role_cellSem]; rfl
theorem payload_cell (d : Fin 3) : (sched (F := F) m).payload (cell (c, i)) 0 d = cellPay m c d i := by
  show (role (cellSem i)).elim iprop(emp) (cellPay m c d) = _
  rw [role_cellSem]; rfl

theorem expect_cell : (sched (F := F) m).expect (cell (c, i)) 0 = (cellDuties i).card * pay i := by
  unfold Schedule.expect Schedule.amountOf
  rw [duties_cell, Finset.sum_congr rfl fun d _ => amount_cell m c i d, Finset.sum_const, smul_eq_mul]
theorem expect_barrier : (sched (F := F) m).expect (cell (c, none)) 0 = 3 := (expect_cell m c none).trans rfl
theorem expect_xfer (k : Xfer) : (sched (F := F) m).expect (cell (c, some k)) 0 = pay (some k) := (expect_cell m c (some k)).trans (Nat.one_mul _)

theorem rest_barrier : bigSep ((sched (F := F) m).duties (cell (c, none)) 0 \ ∅) (fun d => (sched (F := F) m).payload (cell (c, none)) 0 d)
    = iprop(barrierPay c 0 ∗ barrierPay c 1 ∗ barrierPay c 2) := by
  rw [Finset.sdiff_empty, duties_cell, show cellDuties none = Finset.univ from rfl, bigSep_univ_eq_bigSepL [0, 1, 2] (by decide) (by decide),
    bigSepL_cons_cons, bigSepL_cons_cons, bigSepL_singleton, payload_cell, payload_cell, payload_cell]
  rfl
theorem rest_xfer (k : Xfer) : bigSep ((sched (F := F) m).duties (cell (c, some k)) 0 \ ∅) (fun d => (sched (F := F) m).payload (cell (c, some k)) 0 d) = xferPay m c k := by
  rw [Finset.sdiff_empty, duties_cell, show cellDuties (some k) = {0} from rfl, bigSep_singleton, payload_cell]
  rfl

end Sched

/-! ## Debts: lists of the cells a device still has to pay -/

/-- What is owed when one payment is owed to each cell of a list. -/
def debt : List (Dev nD × Option Xfer) → CellTallies nD τ sig Unit
  | [] => 0
  | x :: l => debt l + tallyAt (cell x) () (pay x.2)

/-- The two payments that slot `s` of device `c` makes, codes first, then scales. -/
abbrev slotDues (c : Dev nD) (s : Fin 6) : List (Dev nD × Option Xfer) := [(target s c, some (1, s)), (target s c, some (3, s))]
/-- The payments of the slots of a list. -/
def slotsDues (c : Dev nD) : List (Fin 6) → List (Dev nD × Option Xfer)
  | [] => []
  | s :: l => (target s c, some (1, s)) :: (target s c, some (3, s)) :: slotsDues c l
/-- The order in which a device sends. -/
abbrev sendOrder : List (Fin 6) := [2, 3, 0, 1, 4, 5]
/-- What a device owes at launch: a unit to each other device's barrier, then the slots. -/
def dues (c : Dev nD) : List (Dev nD × Option Xfer) := (shift c 1, none) :: (shift c 2, none) :: (shift c 3, none) :: slotsDues c sendOrder

def O₀ (c : Dev nD) : CellTallies nD τ sig Unit := debt (dues c)

theorem debt_pos {l : List (Dev nD × Option Xfer)} {g : GSem nD τ sig} {u : Unit} (h : 0 < debt l g u) : ∃ x ∈ l, g = cell x := by
  induction l with
  | nil => exact absurd h (Nat.lt_irrefl 0)
  | cons x l ih =>
    rw [debt, Pi.add_apply, Finsupp.add_apply, tallyAt_apply] at h
    by_cases hg : g = cell x ∧ u = ()
    · exact ⟨x, List.mem_cons_self, hg.1⟩
    · rw [if_neg hg, Nat.add_zero] at h
      obtain ⟨y, hy, e⟩ := ih h
      exact ⟨y, List.mem_cons_of_mem _ hy, e⟩

theorem debt_cell (l : List (Dev nD × Option Xfer)) (x : Dev nD × Option Xfer) : debt l (cell x) () = l.count x * pay x.2 := by
  induction l with
  | nil => exact (Nat.zero_mul _).symm
  | cons y l ih =>
    rw [debt, Pi.add_apply, Finsupp.add_apply, tallyAt_apply, ih, List.count_cons]
    by_cases h : x = y
    · subst h
      rw [if_pos ⟨rfl, rfl⟩, if_pos (beq_self_eq_true x), Nat.add_mul, Nat.one_mul]
    · rw [if_neg fun e => h (cell_injective e.1), if_neg fun e => h (beq_iff_eq.mp e).symm, Nat.add_zero, Nat.add_zero]

theorem mem_slotsDues {c : Dev nD} {l : List (Fin 6)} {x : Dev nD × Option Xfer} (h : x ∈ slotsDues c l) : ∃ s, x.2 = some (1, s) ∨ x.2 = some (3, s) := by
  induction l with
  | nil => exact absurd h List.not_mem_nil
  | cons s l ih =>
    rcases List.mem_cons.mp h with rfl | h
    · exact ⟨s, .inl rfl⟩
    rcases List.mem_cons.mp h with rfl | h
    · exact ⟨s, .inr rfl⟩
    · exact ih h

/-! ## Levels -/

def L (g : GSem nD τ sig) : Finset Unit := if g.1.2 = .tc then {()} else ∅

/-- A semaphore's level: barrier 1, receive 2, send 0. -/
def roleLevel : Option Xfer → ℕ
  | none => 1
  | some (0, _) => 0
  | some (1, _) => 2
  | some (2, _) => 0
  | some (3, _) => 2
def lv (g : GSem nD τ sig) (_ : Unit) : ℕ := (role g.2).elim 0 roleLevel

theorem lv_cell (x : Dev nD × Option Xfer) (u : Unit) : lv (cell x) u = roleLevel x.2 := by
  show (role (cellSem x.2)).elim 0 roleLevel = _
  rw [role_cellSem]; rfl
theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore while all it owes is of higher level. -/
theorem mayWait_debt (c : Dev nD) (sm : SemLoc sig) (n : ℕ) (l : List (Dev nD × Option Xfer)) (hs : lv ((c : Thread nD τ), sm) () = n) (hl : ∀ x ∈ l, n < roleLevel x.2) :
    (levAts L lv : sProp 𝕄) ⊢ MayWait (c : Thread nD τ) sm () (debt l) :=
  MayOwe.of_cut (L := L) (lev := lv) n (fun p hp => by rw [Finset.mem_singleton.mp hp, L_tc]; exact Finset.mem_singleton_self _)
    (fun g u hg => by obtain ⟨x, -, rfl⟩ := debt_pos hg; exact Finset.mem_singleton_self _)
    (fun p hp => by rw [Finset.mem_singleton.mp hp]; exact le_of_eq hs)
    (fun g u hg => by obtain ⟨x, hx, rfl⟩ := debt_pos hg; rw [lv_cell]; exact hl x hx)

theorem slots_above (c : Dev nD) (l : List (Fin 6)) : ∀ x ∈ slotsDues c l, 1 < roleLevel x.2 := fun x hx => by
  obtain ⟨s, h | h⟩ := mem_slotsDues hx <;> rw [h] <;> exact (by decide : 1 < 2)

/-- At its barrier wait a device owes the slots only. -/
theorem mayWait_barrier (c : Dev nD) (l : List (Fin 6)) : (levAts L lv : sProp 𝕄) ⊢ MayWait (c : Thread nD τ) (.reg barrierSem) () (debt (slotsDues c l)) :=
  mayWait_debt c _ 1 _ (lv_cell (c, none) ()) (slots_above c l)

/-- The staging semaphores are below everything a device owes. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine mayWait_debt c _ 0 _ (by show (role (.dma q)).elim 0 roleLevel = 0; rw [hq]; rfl) fun x hx => ?_
    rcases List.mem_cons.mp hx with rfl | hx
    · exact Nat.one_pos
    rcases List.mem_cons.mp hx with rfl | hx
    · exact Nat.one_pos
    rcases List.mem_cons.mp hx with rfl | hx
    · exact Nat.one_pos
    · exact Nat.lt_of_succ_lt (slots_above c _ x hx)
  · rw [MayWait_zero]; iintro -; iempintro

end Cert.Exchange
-- ==== Proof.Steps.lean ====
/-
# One slot's work, stage by stage

The kernel does the same six times: compute and quantise a half block into a slot, send the slot's codes and scales, and
later take what came in through a slot and write it to the result; at the end it waits for each of its sends. Each of these
is one lemma at a symbolic slot, from what the stage needs to what it leaves.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c`'s program `p` runs to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The shared records -/

/-- Every cell's invariant, under the names `K`, and that every cell has begun. -/
def records (K : Dev nD × Option Xfer → ℕ) : sProp 𝕄 :=
  iprop((bigSep Finset.univ fun x : Dev nD × Option Xfer => cellInv ER (sched m) (K x) (cell x))
    ∗ bigSep Finset.univ fun x : Dev nD × Option Xfer => reached ER (cell x) 0)

instance records_persistent (K : Dev nD × Option Xfer → ℕ) : BI.Persistent (records m K) := by unfold records; infer_instance

theorem records_inv (K : Dev nD × Option Xfer → ℕ) (x : Dev nD × Option Xfer) : records m K ⊢ cellInv ER (sched m) (K x) (cell x) := by
  unfold records
  iintro ⟨H, -⟩
  iapply (show (bigSep Finset.univ fun x : Dev nD × Option Xfer => cellInv ER (sched m) (K x) (cell x)) ⊢ cellInv ER (sched m) (K x) (cell x) from bigSep_elim (Finset.mem_univ x)); iexact H
theorem records_reached (K : Dev nD × Option Xfer → ℕ) (x : Dev nD × Option Xfer) : records m K ⊢ reached ER (cell x) 0 := by
  unfold records
  iintro ⟨-, H⟩
  iapply (show (bigSep Finset.univ fun x : Dev nD × Option Xfer => (reached ER (cell x) 0 : sProp 𝕄)) ⊢ reached ER (cell x) 0 from bigSep_elim (Finset.mem_univ x)); iexact H

/-- What a device still owes, whatever it has waited on. -/
def owesSome (c : Dev nD) (O : CellTallies nD τ sig Unit) : sProp 𝕄 := iprop(∃ W, owes (c : Thread nD τ) O W)

/-! ## Waiting on a transfer semaphore -/

/-- Before the wait: the semaphore at its first round, and what it will have been paid. -/
def ready (c : Dev nD) (k : Xfer) : sProp 𝕄 := iprop(atPos ER (cell (c, some k)) 0 ∅ 0 ∗ cred (tallyAt (cell (c, some k)) () (pay (some k))))

/-- The wait hands over the payment and leaves the semaphore at zero, its cell closed. -/
theorem wp_waitXfer (K : Dev nD × Option Xfer → ℕ) (c : Dev nD) (k : Xfer) {sp sp' : Space} {s s' : Shape} {e e' : EltTy} {src : Memref sig .tc sp' s' e'} {dst : Memref sig .tc sp s e}
    {hsrc : src.view.WordExact} {hdst : dst.view.WordExact} {α : Type} {Q : α → sProp 𝕄} {k' : PUnit → Prog (TpuEff nD τ sig (Elt F) Λ₀ .tc) α}
    (hN : dst.view.dmaCredit = pay (some k)) :
    iprop(records m K ∗ owesSome c 0 ∗ ready c k)
      ⊢ iprop(((owesSome c 0 ∗ semVal (cell (c, some k)) 0 ∗ xferPay m c k) -∗ runs c (k' ⟨⟩) Q)
          -∗ runs c (.op (.waitDma2 (slotSem (semArray k.1) k.2) src dst hsrc hdst) k') Q) := by
  unfold owesSome ready
  iintro ⟨#HR, ⟨%W, HO⟩, Hat, Hc⟩ Hk
  ihave #HI := (records_inv m K (c, some k)) $$ HR
  iapply (Rounds.wp_wait_rest_token 𝒱₀ ER (sched m) (c : Thread nD τ) none (κ := K (c, some k))
      (wpE_waitDma2_eq 𝒱₀ (c : Thread nD τ) none Set.univ) (Set.mem_univ _) () (O := 0) (W := W) (R := 0) (m := 0) (T := ∅)
      ((Nat.zero_add _).trans (hN.trans (expect_xfer m c k).symm))) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (sched m) (Set.mem_univ (K (c, some k))) (fun h => h) (R := 0 + 1) (duties_later m (cell (c, some k)))) $$ [Hat] with Hz
  · isplitr; · iexact HI
    iexact Hat
  iapply Hk
  isplitl [HO]; · iexists _; iexact HO
  isplitl [Hz]; · iexact Hz
  iapply (Entails.of_eq (rest_xfer m c k)); iexact Hpay

theorem credit_codesOut (s : Fin 6) : (codesSlot codesOut s).view.dmaCredit = pay (some (0, s)) := rfl
theorem credit_codesIn (s : Fin 6) : (codesSlot codesIn s).view.dmaCredit = pay (some (1, s)) := rfl
theorem credit_scalesOut (s : Fin 6) : (scalesSlot scalesOut s).view.dmaCredit = pay (some (2, s)) := rfl
theorem credit_scalesIn (s : Fin 6) : (scalesSlot scalesIn s).view.dmaCredit = pay (some (3, s)) := rfl

/-! ## Sending a slot -/

section Send
variable (K : Dev nD × Option Xfer → ℕ) (c : Dev nD) (s : Fin 6)

/-- The tokens of the four duties that the sends of slot `s` pay. -/
def sendToks : sProp 𝕄 :=
  iprop((dutyTok ER (cell (c, some (0, s))) 0 0 ∗ dutyTok ER (cell (target s c, some (1, s))) 0 0)
    ∗ dutyTok ER (cell (c, some (2, s))) 0 0 ∗ dutyTok ER (cell (target s c, some (3, s))) 0 0)

theorem wp_sendCodes (n : Dev nD) (hn : n = target s c) {hsc : (codesSlot codesIn s : Memref sig (Dev.tc n : Thread nD τ).2.kind .vmem S512x512 .i8).view.ref.isScScratch = false}
    {hsrc : (codesSlot codesOut s).view.WordExact} {hdst : (codesSlot codesIn s).view.WordExact}
    {hsem : DmaTarget.Typed .vmem (.dma (slotSem (semArray 1) s)) (.remote (Dev.tc n : Thread nD τ) (codesSlot codesIn s) (.dma (slotSem (semArray 0) s)) hsc)}
    {α : Type} {Q : α → sProp 𝕄} {k : PUnit → Prog (TpuEff nD τ sig (Elt F) Λ₀ .tc) α} (l : List (Dev nD × Option Xfer)) :
    iprop(records m K ∗ codesAre codesOut c s (sentCodes m c s) ∗ codesAny codesIn (target s c) s
        ∗ owesSome c (debt ((target s c, some (1, s)) :: l))
        ∗ dutyTok ER (cell (c, some (0, s))) 0 0 ∗ dutyTok ER (cell (target s c, some (1, s))) 0 0)
      ⊢ iprop(((cred (tallyAt (cell (c, some (0, s))) () (pay (some (0, s)))) ∗ owesSome c (debt l)) -∗ runs c (k ⟨⟩) Q)
          -∗ runs c (.op (.enqueueDma (codesSlot codesOut s) (.remote (Dev.tc n : Thread nD τ) (codesSlot codesIn s) (.dma (slotSem (semArray 0) s)) hsc)
              (.dma (slotSem (semArray 1) s)) hsrc hdst hsem) k) Q) := by
  subst hn
  unfold owesSome codesAre codesAny codesPts
  iintro ⟨#HR, ⟨%f, %hf, Hs⟩, ⟨%g, Hd⟩, ⟨%W, HO⟩, Ht, Ht'⟩ Hk
  ihave #HI := (records_inv m K (c, some (0, s))) $$ HR
  ihave #HI' := (records_inv m K (target s c, some (1, s))) $$ HR
  ihave #Hr := (records_reached m K (c, some (0, s))) $$ HR
  ihave #Hr' := (records_reached m K (target s c, some (1, s))) $$ HR
  iapply (Rounds.wp_send_pointsTo 𝒱₀ ER (sched m) (c : Thread nD τ) none (κ₁ := K (c, some (0, s))) (κ₂ := K (target s c, some (1, s)))
    (r₁ := 0) (r₂ := 0) (d₁ := 0) (d₂ := 0) (fs := f) (fd := g)
    (by rw [duties_cell]; exact Finset.mem_singleton_self _) (by rw [duties_cell]; exact Finset.mem_singleton_self _)
    () () (pay (some (0, s))) rfl (amount_cell m c (some (0, s)) 0) (amount_cell m (target s c) (some (1, s)) 0) (debt l) rfl (W := W)
    (by rw [payload_cell]; show _ ⊢ codesAny codesOut c s; unfold codesAny codesPts; iintro H; iexists f; iexact H)
    (by
      rw [payload_cell]; show _ ⊢ codesAre codesIn (target s c) s (sentCodes m (origin s (target s c)) s)
      rw [origin_target]; unfold codesAre codesPts
      iintro H; iexists _; isplitr
      · ipureintro; exact hasCodes_transfer codesOut codesIn s _ f g hf
      · iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

theorem wp_sendScales (n : Dev nD) (hn : n = target s c) {hsc : (scalesSlot scalesIn s : Memref sig (Dev.tc n : Thread nD τ).2.kind .vmem S8x512 .f32).view.ref.isScScratch = false}
    {hsrc : (scalesSlot scalesOut s).view.WordExact} {hdst : (scalesSlot scalesIn s).view.WordExact}
    {hsem : DmaTarget.Typed .vmem (.dma (slotSem (semArray 3) s)) (.remote (Dev.tc n : Thread nD τ) (scalesSlot scalesIn s) (.dma (slotSem (semArray 2) s)) hsc)}
    {α : Type} {Q : α → sProp 𝕄} {k : PUnit → Prog (TpuEff nD τ sig (Elt F) Λ₀ .tc) α} (l : List (Dev nD × Option Xfer)) :
    iprop(records m K ∗ scalesAre scalesOut c s (sentScales m c s) ∗ scalesAny scalesIn (target s c) s
        ∗ owesSome c (debt ((target s c, some (3, s)) :: l))
        ∗ dutyTok ER (cell (c, some (2, s))) 0 0 ∗ dutyTok ER (cell (target s c, some (3, s))) 0 0)
      ⊢ iprop(((cred (tallyAt (cell (c, some (2, s))) () (pay (some (2, s)))) ∗ owesSome c (debt l)) -∗ runs c (k ⟨⟩) Q)
          -∗ runs c (.op (.enqueueDma (scalesSlot scalesOut s) (.remote (Dev.tc n : Thread nD τ) (scalesSlot scalesIn s) (.dma (slotSem (semArray 2) s)) hsc)
              (.dma (slotSem (semArray 3) s)) hsrc hdst hsem) k) Q) := by
  subst hn
  unfold owesSome scalesAre scalesAny scalesPts
  iintro ⟨#HR, ⟨%f, %hf, Hs⟩, ⟨%g, Hd⟩, ⟨%W, HO⟩, Ht, Ht'⟩ Hk
  ihave #HI := (records_inv m K (c, some (2, s))) $$ HR
  ihave #HI' := (records_inv m K (target s c, some (3, s))) $$ HR
  ihave #Hr := (records_reached m K (c, some (2, s))) $$ HR
  ihave #Hr' := (records_reached m K (target s c, some (3, s))) $$ HR
  iapply (Rounds.wp_send_pointsTo 𝒱₀ ER (sched m) (c : Thread nD τ) none (κ₁ := K (c, some (2, s))) (κ₂ := K (target s c, some (3, s)))
    (r₁ := 0) (r₂ := 0) (d₁ := 0) (d₂ := 0) (fs := f) (fd := g)
    (by rw [duties_cell]; exact Finset.mem_singleton_self _) (by rw [duties_cell]; exact Finset.mem_singleton_self _)
    () () (pay (some (2, s))) rfl (amount_cell m c (some (2, s)) 0) (amount_cell m (target s c) (some (3, s)) 0) (debt l) rfl (W := W)
    (by rw [payload_cell]; show _ ⊢ scalesAny scalesOut c s; unfold scalesAny scalesPts; iintro H; iexists f; iexact H)
    (by
      rw [payload_cell]; show _ ⊢ scalesAre scalesIn (target s c) s (sentScales m (origin s (target s c)) s)
      rw [origin_target]; unfold scalesAre scalesPts
      iintro H; iexists _; isplitr
      · ipureintro; exact hasScales_transfer scalesOut scalesIn s _ f g hf
      · iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A slot before its send: holding the codes and scales it is to carry. -/
def loaded : sProp 𝕄 := iprop(codesAre codesOut c s (sentCodes m c s) ∗ scalesAre scalesOut c s (sentScales m c s))

/-- A slot in flight: what its two send semaphores will have been paid. -/
def inFlight : sProp 𝕄 :=
  iprop(cred (tallyAt (cell (c, some (0, s))) () (pay (some (0, s)))) ∗ cred (tallyAt (cell (c, some (2, s))) () (pay (some (2, s)))))

/-- Both sends of a slot, to the landing slot its target has handed over. -/
theorem wp_launchSlot (n n' : Dev nD) (hn : n = target s c) (hn' : n' = target s c)
    {hsc : (codesSlot codesIn s : Memref sig (Dev.tc n : Thread nD τ).2.kind .vmem S512x512 .i8).view.ref.isScScratch = false}
    {hsrc : (codesSlot codesOut s).view.WordExact} {hdst : (codesSlot codesIn s).view.WordExact}
    {hsem : DmaTarget.Typed .vmem (.dma (slotSem (semArray 1) s)) (.remote (Dev.tc n : Thread nD τ) (codesSlot codesIn s) (.dma (slotSem (semArray 0) s)) hsc)}
    {hsc' : (scalesSlot scalesIn s : Memref sig (Dev.tc n' : Thread nD τ).2.kind .vmem S8x512 .f32).view.ref.isScScratch = false}
    {hsrc' : (scalesSlot scalesOut s).view.WordExact} {hdst' : (scalesSlot scalesIn s).view.WordExact}
    {hsem' : DmaTarget.Typed .vmem (.dma (slotSem (semArray 3) s)) (.remote (Dev.tc n' : Thread nD τ) (scalesSlot scalesIn s) (.dma (slotSem (semArray 2) s)) hsc')}
    {α : Type} {Q : α → sProp 𝕄} {k : PUnit → Prog (TpuEff nD τ sig (Elt F) Λ₀ .tc) α} (l : List (Fin 6)) :
    iprop(records m K ∗ loaded m c s ∗ landing (target s c) s
        ∗ owesSome c (debt (slotsDues c (s :: l))) ∗ sendToks c s)
      ⊢ iprop(((inFlight c s ∗ owesSome c (debt (slotsDues c l))) -∗ runs c (k ⟨⟩) Q)
          -∗ runs c (.op (.enqueueDma (codesSlot codesOut s) (.remote (Dev.tc n : Thread nD τ) (codesSlot codesIn s) (.dma (slotSem (semArray 0) s)) hsc)
              (.dma (slotSem (semArray 1) s)) hsrc hdst hsem) fun _ =>
            .op (.enqueueDma (scalesSlot scalesOut s) (.remote (Dev.tc n' : Thread nD τ) (scalesSlot scalesIn s) (.dma (slotSem (semArray 2) s)) hsc')
              (.dma (slotSem (semArray 3) s)) hsrc' hdst' hsem') k) Q) := by
  unfold loaded landing sendToks
  iintro ⟨#HR, ⟨Hs, Hs'⟩, ⟨Hd, Hd'⟩, HO, ⟨Ht, Ht'⟩, Ht'', Ht'''⟩ Hk
  iapply (wp_sendCodes m K c s n hn ((target s c, some (3, s)) :: slotsDues c l)) $$ [Hs Hd HO Ht Ht']
  · isplitr; · iexact HR
    isplitl [Hs]; · iexact Hs
    isplitl [Hd]; · iexact Hd
    isplitl [HO]; · iexact HO
    isplitl [Ht] <;> iassumption
  iintro ⟨Hc, HO⟩
  iapply (wp_sendScales m K c s n' hn' (slotsDues c l)) $$ [Hs' Hd' HO Ht'' Ht''']
  · isplitr; · iexact HR
    isplitl [Hs']; · iexact Hs'
    isplitl [Hd']; · iexact Hd'
    isplitl [HO]; · iexact HO
    isplitl [Ht''] <;> iassumption
  iintro ⟨Hc', HO⟩
  iapply Hk
  unfold inFlight
  isplitr [HO]
  · isplitl [Hc] <;> iassumption
  · iexact HO

/-! ## The sends done -/

/-- A slot's two send semaphores at their first round. -/
def sendPos : sProp 𝕄 := iprop(atPos ER (cell (c, some (0, s))) 0 ∅ 0 ∗ atPos ER (cell (c, some (2, s))) 0 ∅ 0)
/-- A slot's two send semaphores at zero, and the slot back. -/
def sentSlot : sProp 𝕄 :=
  iprop((semVal (cell (c, some (0, s))) 0 ∗ semVal (cell (c, some (2, s))) 0) ∗ codesAny codesOut c s ∗ scalesAny scalesOut c s)

theorem wp_sentSlot {hsrc₁ : (codesSlot codesIn s).view.WordExact} {hdst₁ : (codesSlot codesOut s).view.WordExact}
    {hsrc₂ : (scalesSlot scalesIn s).view.WordExact} {hdst₂ : (scalesSlot scalesOut s).view.WordExact}
    {α : Type} {Q : α → sProp 𝕄} {k : PUnit → Prog (TpuEff nD τ sig (Elt F) Λ₀ .tc) α} :
    iprop(records m K ∗ owesSome c 0 ∗ sendPos c s ∗ inFlight c s)
      ⊢ iprop(((owesSome c 0 ∗ sentSlot c s) -∗ runs c (k ⟨⟩) Q)
          -∗ runs c (.op (.waitDma2 (slotSem (semArray 0) s) (codesSlot codesIn s) (codesSlot codesOut s) hsrc₁ hdst₁) fun _ =>
            .op (.waitDma2 (slotSem (semArray 2) s) (scalesSlot scalesIn s) (scalesSlot scalesOut s) hsrc₂ hdst₂) k) Q) := by
  unfold sendPos inFlight
  iintro ⟨#HR, HO, ⟨Ha, Ha'⟩, Hc, Hc'⟩ Hk
  iapply (wp_waitXfer m K c (0, s) (credit_codesOut s)) $$ [HO Ha Hc]
  · isplitr; · iexact HR
    isplitl [HO]; · iexact HO
    unfold ready; isplitl [Ha] <;> iassumption
  iintro ⟨HO, Hz, Hp⟩
  iapply (wp_waitXfer m K c (2, s) (credit_scalesOut s)) $$ [HO Ha' Hc']
  · isplitr; · iexact HR
    isplitl [HO]; · iexact HO
    unfold ready; isplitl [Ha'] <;> iassumption
  iintro ⟨HO, Hz', Hp'⟩
  iapply Hk
  isplitl [HO]; · iexact HO
  unfold sentSlot
  isplitl [Hz Hz']
  · isplitl [Hz] <;> iassumption
  isplitl [Hp]
  · iapply (Entails.of_eq (show xferPay m c (0, s) = codesAny codesOut c s from rfl)); iexact Hp
  · iapply (Entails.of_eq (show xferPay m c (2, s) = scalesAny scalesOut c s from rfl)); iexact Hp'

end Send

/-! ## Computing a half block into a slot -/

/-- The operands as staged. -/
def operands (c : Dev nD) : sProp 𝕄 :=
  iprop((((c : Thread nD τ).loc cc0_stg0_0) ↦{fullShare} xIn m c) ∗ (((c : Thread nD τ).loc cc0_stg1_0) ↦{fullShare} wIn m c))

section Stage
variable (c : Dev nD) (s : Fin 6)

theorem codes_sub (b : Memref sig .tc .vmem S6x512x512 .i8) : b.view.setOn (codesRect s).set ⊆ (codesSlot b s).view.set :=
  subset_of_eq ((View.set_reshape (b.view.slice (codesRect s)) squeezes_S1x512x512_S512x512.numel_eq).trans (View.set_slice _ _)).symm
theorem scales_sub (b : Memref sig .tc .vmem S6x8x512 .f32) : b.view.setOn (scalesRect s).set ⊆ (scalesSlot b s).view.set :=
  subset_of_eq ((View.set_reshape (b.view.slice (scalesRect s)) squeezes_S1x8x512_S8x512.numel_eq).trans (View.set_slice _ _)).symm
theorem codes_store_sub (b : Memref sig .tc .vmem S6x512x512 .i8) : (b.access (codesRect s)).setOn Finset.univ ⊆ (codesSlot b s).view.set :=
  subset_of_eq (View.set_reshape (b.view.slice (codesRect s)) squeezes_S1x512x512_S512x512.numel_eq).symm
theorem scales_store_sub (b : Memref sig .tc .vmem S6x8x512 .f32) : (b.access (scalesRect s)).setOn Finset.univ ⊆ (scalesSlot b s).view.set :=
  subset_of_eq (View.set_reshape (b.view.slice (scalesRect s)) squeezes_S1x8x512_S8x512.numel_eq).symm
theorem row_sub : scalesIn.view.setOn (rowRect s).set ⊆ (scalesSlot scalesIn s).view.set := by
  refine subset_trans (Finset.map_subset_map.mpr ?_) (scales_sub s scalesIn)
  exact Rect.set_subset_of_span _ _ (fun _ => rfl) (by revert s; decide)

theorem wp_stageSlot {o : Fin 2 → ℕ} (ho : o = ![0, 512 * (target s c).val]) {hi : ∀ a, o a + S4096x512.size a ≤ S4096x2048.size a}
    {hx : xM.view.LoadsAt (Rect.unit (s := S1024x4096) ![512 * (half s).val, 0] S512x4096.size (rows_inb (half s))).toLoadRect}
    {hw : wM.view.LoadsAt (Rect.unit (s := S4096x2048) o S4096x512.size hi).toLoadRect}
    {hq : codesOut.view.LoadsAt (codesRect s).toLoadRect} {hr : scalesOut.view.LoadsAt (scalesRect s).toLoadRect}
    {P : Vec F S512x4096 .i8 → Vec F S4096x512 .i8 → Vec F S1x512x512 .i8} {P' : Vec F S512x4096 .i8 → Vec F S4096x512 .i8 → Vec F S1x8x512 .f32}
    {hq₁ : (codesOut.access (codesRect s)).Stores Finset.univ} {hq₂ : (Finset.univ : Finset (codesRect s).shape.Idx) = Finset.univ ∨ ∀ a, (codesRect s).stride a = 1}
    {hr₁ : (scalesOut.access (scalesRect s)).Stores Finset.univ} {hr₂ : (Finset.univ : Finset (scalesRect s).shape.Idx) = Finset.univ ∨ ∀ a, (scalesRect s).stride a = 1}
    {α : Type} {Q : α → sProp 𝕄} {k : Vec F S512x4096 .i8 → Vec F S4096x512 .i8 → PUnit → Prog (TpuEff nD τ sig (Elt F) Λ₀ .tc) α}
    (hP : P (xRows m c (half s)) (wCols m c (target s c)) = sentCodes m c s) (hP' : P' (xRows m c (half s)) (wCols m c (target s c)) = sentScales m c s) :
    iprop(operands m c ∗ codesAny codesOut c s ∗ scalesAny scalesOut c s)
      ⊢ iprop(((operands m c ∗ loaded m c s) -∗ runs c (k (xRows m c (half s)) (wCols m c (target s c)) ⟨⟩) Q)
          -∗ runs c (.op (.load xM (Rect.unit (s := S1024x4096) ![512 * (half s).val, 0] S512x4096.size (rows_inb (half s))).toLoadRect hx) fun x =>
            .op (.load wM (Rect.unit (s := S4096x2048) o S4096x512.size hi).toLoadRect hw) fun w =>
            .op (.load codesOut (codesRect s).toLoadRect hq) fun _ =>
            .op (.store codesOut (codesRect s) (P x w) Finset.univ hq₁ hq₂) fun _ =>
            .op (.load scalesOut (scalesRect s).toLoadRect hr) fun _ =>
            .op (.store scalesOut (scalesRect s) (P' x w) Finset.univ hr₁ hr₂) (k x w)) Q) := by
  subst ho
  unfold operands codesAny scalesAny codesPts scalesPts
  iintro ⟨⟨Hx, Hw⟩, ⟨%f, Hq⟩, ⟨%g, Hs⟩⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := codesOut) (codes_sub s codesOut)) $$ Hq; iintro Hq
  iapply (wp_store 𝒱₀ (c : Thread nD τ) none Set.univ (m := codesOut) (r := codesRect s) (Mk := Finset.univ) (codes_store_sub s codesOut)) $$ Hq; iintro Hq
  iapply (wp_load 𝒱₀ (c : Thread nD τ) none Set.univ (m := scalesOut) (scales_sub s scalesOut)) $$ Hs; iintro Hs
  iapply (wp_store 𝒱₀ (c : Thread nD τ) none Set.univ (m := scalesOut) (r := scalesRect s) (Mk := Finset.univ) (scales_store_sub s scalesOut)) $$ Hs; iintro Hs
  iapply Hk
  isplitl [Hx Hw]
  · isplitl [Hx] <;> iassumption
  unfold loaded codesAre scalesAre codesPts scalesPts
  isplitl [Hq]
  · iexists _; isplitr
    · ipureintro; exact hasCodes_store codesOut s _ hP f
    · iexact Hq
  · iexists _; isplitr
    · ipureintro; exact hasScales_store scalesOut s _ hP' g
    · iexact Hs

end Stage

/-! ## Writing the result -/

/-- The result buffer, agreeing with the result on the blocks of `B`. -/
def filled (c : Dev nD) (B : Finset (Fin 8)) : sProp 𝕄 :=
  iprop(∃ f : Buf (Elt F) ((c : Thread nD τ).loc cc0_stg4_0), ⌜Filled m c B f⌝ ∗ (((c : Thread nD τ).loc cc0_stg4_0) ↦{fullShare} f))

section Out
variable (K : Dev nD × Option Xfer → ℕ) (c : Dev nD)

/-- A half of a device's own block: computed and written. -/
theorem wp_ownBlock (h : Fin 2) (b : Fin 8) (hb : b.val = 2 * c.val + h.val) (B : Finset (Fin 8)) {o o' : Fin 2 → ℕ} (ho : o = ![0, 512 * c.val]) (ho' : o' = ![512 * b.val, 0])
    {hi : ∀ a, o a + S4096x512.size a ≤ S4096x2048.size a} {hi' : ∀ a, o' a + S512x512.size a ≤ S4096x512.size a}
    {hx : xM.view.LoadsAt (Rect.unit (s := S1024x4096) ![512 * h.val, 0] S512x4096.size (rows_inb h)).toLoadRect}
    {hw : wM.view.LoadsAt (Rect.unit (s := S4096x2048) o S4096x512.size hi).toLoadRect}
    {hl : outM.view.LoadsAt (Rect.unit (s := S4096x512) o' S512x512.size hi').toLoadRect}
    {P : Vec F S512x4096 .i8 → Vec F S4096x512 .i8 → FVec F S512x512 .bf16}
    {hs₁ : (outM.access (Rect.unit (s := S4096x512) o' S512x512.size hi')).Stores Finset.univ}
    {hs₂ : (Finset.univ : Finset (Rect.unit (s := S4096x512) o' S512x512.size hi').shape.Idx) = Finset.univ ∨ ∀ a, (Rect.unit (s := S4096x512) o' S512x512.size hi').stride a = 1}
    {α : Type} {Q : α → sProp 𝕄} {k : Vec F S512x4096 .i8 → Vec F S4096x512 .i8 → PUnit → Prog (TpuEff nD τ sig (Elt F) Λ₀ .tc) α}
    (hP : P (xRows m c h) (wCols m c c) = kept m c h) :
    iprop(operands m c ∗ filled m c B)
      ⊢ iprop(((operands m c ∗ filled m c (insert b B)) -∗ runs c (k (xRows m c h) (wCols m c c) ⟨⟩) Q)
          -∗ runs c (.op (.load xM (Rect.unit (s := S1024x4096) ![512 * h.val, 0] S512x4096.size (rows_inb h)).toLoadRect hx) fun x =>
            .op (.load wM (Rect.unit (s := S4096x2048) o S4096x512.size hi).toLoadRect hw) fun w =>
            .op (.load outM (Rect.unit (s := S4096x512) o' S512x512.size hi').toLoadRect hl) fun _ =>
            .op (.store outM (Rect.unit (s := S4096x512) o' S512x512.size hi') (P x w) Finset.univ hs₁ hs₂) (k x w)) Q) := by
  subst ho ho'
  unfold operands filled
  iintro ⟨⟨Hx, Hw⟩, ⟨%f, %hf, Ho⟩⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := outM) (Finset.subset_univ _)) $$ Ho; iintro Ho
  iapply (wp_store 𝒱₀ (c : Thread nD τ) none Set.univ (m := outM) (r := blockRect b) (Mk := Finset.univ) (Finset.subset_univ _)) $$ Ho; iintro Ho
  iapply Hk
  isplitl [Hx Hw]
  · isplitl [Hx] <;> iassumption
  iexists _; isplitr
  · ipureintro; exact filled_store m c B b _ (hP.trans (outBlock_kept m c h b hb).symm) f hf
  · iexact Ho

/-- A slot's two receive semaphores, before the waits. -/
def toCome (s : Fin 6) : sProp 𝕄 := iprop(ready c (1, s) ∗ ready c (3, s))
/-- A slot's two receive semaphores at zero, and the landing slot. -/
def takenSlot (s : Fin 6) : sProp 𝕄 :=
  iprop((semVal (cell (c, some (1, s))) 0 ∗ semVal (cell (c, some (3, s))) 0) ∗ codesAny codesIn c s ∗ scalesAny scalesIn c s)

/-- What came in through a slot: waited for, dequantised and written. -/
theorem wp_takeSlot (s : Fin 6) (b : Fin 8) (hb : b.val = rowsOf c s) (B : Finset (Fin 8)) {o' : Fin 2 → ℕ} (ho' : o' = ![512 * b.val, 0])
    {hi' : ∀ a, o' a + S512x512.size a ≤ S4096x512.size a}
    {hsrc₁ : (codesSlot codesOut s).view.WordExact} {hdst₁ : (codesSlot codesIn s).view.WordExact}
    {hsrc₂ : (scalesSlot scalesOut s).view.WordExact} {hdst₂ : (scalesSlot scalesIn s).view.WordExact}
    {hq : codesIn.view.LoadsAt (codesRect s).toLoadRect} {hr : scalesIn.view.LoadsAt (rowRect s).toLoadRect}
    {hl : outM.view.LoadsAt (Rect.unit (s := S4096x512) o' S512x512.size hi').toLoadRect}
    {P : Vec F S1x512x512 .i8 → Vec F S1x1x512 .f32 → FVec F S512x512 .bf16}
    {hs₁ : (outM.access (Rect.unit (s := S4096x512) o' S512x512.size hi')).Stores Finset.univ}
    {hs₂ : (Finset.univ : Finset (Rect.unit (s := S4096x512) o' S512x512.size hi').shape.Idx) = Finset.univ ∨ ∀ a, (Rect.unit (s := S4096x512) o' S512x512.size hi').stride a = 1}
    {α : Type} {Q : α → sProp 𝕄} {k : Vec F S1x512x512 .i8 → Vec F S1x1x512 .f32 → PUnit → Prog (TpuEff nD τ sig (Elt F) Λ₀ .tc) α}
    (hP : ∀ q r, P q r = k0_pay34 q r) :
    iprop(records m K ∗ owesSome c 0 ∗ toCome c s ∗ filled m c B)
      ⊢ iprop(((owesSome c 0 ∗ takenSlot c s ∗ filled m c (insert b B)) -∗ runs c (k (sentCodes m (origin s c) s) (firstRow (sentScales m (origin s c) s)) ⟨⟩) Q)
          -∗ runs c (.op (.waitDma2 (slotSem (semArray 1) s) (codesSlot codesOut s) (codesSlot codesIn s) hsrc₁ hdst₁) fun _ =>
            .op (.waitDma2 (slotSem (semArray 3) s) (scalesSlot scalesOut s) (scalesSlot scalesIn s) hsrc₂ hdst₂) fun _ =>
            .op (.load codesIn (codesRect s).toLoadRect hq) fun q =>
            .op (.load scalesIn (rowRect s).toLoadRect hr) fun r =>
            .op (.load outM (Rect.unit (s := S4096x512) o' S512x512.size hi').toLoadRect hl) fun _ =>
            .op (.store outM (Rect.unit (s := S4096x512) o' S512x512.size hi') (P q r) Finset.univ hs₁ hs₂) (k q r)) Q) := by
  subst ho'
  unfold toCome filled
  iintro ⟨#HR, HO, ⟨Ha, Ha'⟩, ⟨%f, %hf, Ho⟩⟩ Hk
  iapply (wp_waitXfer m K c (1, s) (credit_codesIn s)) $$ [HO Ha]
  · isplitr; · iexact HR
    isplitl [HO] <;> iassumption
  iintro ⟨HO, Hz, Hp⟩
  iapply (wp_waitXfer m K c (3, s) (credit_scalesIn s)) $$ [HO Ha']
  · isplitr; · iexact HR
    isplitl [HO] <;> iassumption
  iintro ⟨HO, Hz', Hp'⟩
  ihave Hq := (show xferPay m c (1, s) ⊢ codesAre codesIn c s (sentCodes m (origin s c) s) from Entails.of_eq rfl) $$ Hp
  ihave Hr := (show xferPay m c (3, s) ⊢ scalesAre scalesIn c s (sentScales m (origin s c) s) from Entails.of_eq rfl) $$ Hp'
  unfold codesAre scalesAre codesPts scalesPts
  icases Hq with ⟨%q, %hq', Hq⟩
  icases Hr with ⟨%r, %hr', Hr⟩
  iapply (wp_load 𝒱₀ (c : Thread nD τ) none Set.univ (m := codesIn) (codes_sub s codesIn)) $$ Hq; iintro Hq
  iapply (wp_load 𝒱₀ (c : Thread nD τ) none Set.univ (m := scalesIn) (row_sub s)) $$ Hr; iintro Hr
  rw [show codesIn.view.readAt (Elt F) (codesRect s).toLoadRect q = _ from hq', readAt_row s _ r hr']
  iapply (wp_load 𝒱₀ (c : Thread nD τ) none Set.univ (m := outM) (Finset.subset_univ _)) $$ Ho; iintro Ho
  iapply (wp_store 𝒱₀ (c : Thread nD τ) none Set.univ (m := outM) (r := blockRect b) (Mk := Finset.univ) (Finset.subset_univ _)) $$ Ho; iintro Ho
  iapply Hk
  isplitl [HO]; · iexact HO
  isplitr [Ho]
  · unfold takenSlot codesAny scalesAny codesPts scalesPts
    isplitl [Hz Hz']
    · isplitl [Hz] <;> iassumption
    isplitl [Hq]
    · iexists _; iexact Hq
    · iexists _; iexact Hr
  iexists _; isplitr
  · ipureintro; exact filled_store m c B b _ ((hP _ _).trans (outBlock_received m c s b hb).symm) f hf
  · iexact Ho

end Out

end Cert.Exchange
-- ==== Proof.Body.lean ====
/-
# The body

The kernel's body on device `c`: three signals that hand out its landing slots, six slots computed and sent, its own block
computed, six slots received and written, and the sends waited for.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier -/

/-- The token of duty `j` of the barrier of the device `e` places further. -/
abbrev barrierTok (c : Dev nD) (e : ℕ) (j : Fin 3) : sProp 𝕄 := dutyTok ER (cell (shift c e, none)) 0 j

theorem wp_signalBar (K : Dev nD × Option Xfer → ℕ) (c : Dev nD) (e : ℕ) (j : Fin 3) (s s' : Fin 6) (n : Dev nD) (hn : n = shift c e)
    (hj : shift (shift c e) (j.val + 1) = c) (hs : slotAt j 0 = s) (hs' : slotAt j 1 = s') {w : ℕ} (hw : w = 1)
    {α : Type} {Q : α → sProp 𝕄} {k : PUnit → Prog (TpuEff nD τ sig (Elt F) Λ₀ .tc) α} (l : List (Dev nD × Option Xfer)) :
    iprop(records m K ∗ owesSome c (debt ((shift c e, none) :: l)) ∗ barrierTok c e j ∗ landing c s ∗ landing c s')
      ⊢ iprop((owesSome c (debt l) -∗ runs c (k ⟨⟩) Q) -∗ runs c (.op (.semSignal (Dev.tc n : Thread nD τ) barrierSem w) k) Q) := by
  subst hn hs hs' hw
  unfold owesSome
  iintro ⟨#HR, ⟨%W, HO⟩, Ht, Hl, Hl'⟩ Hk
  ihave #HI := (records_inv m K (shift c e, none)) $$ HR
  ihave #Hr := (records_reached m K (shift c e, none)) $$ HR
  iapply (Rounds.wp_signal 𝒱₀ ER (sched m) (c : Thread nD τ) none (dst := (shift c e : Thread nD τ)) (κ := K (shift c e, none))
      (d := j) (by show j ∈ (sched m).duties (cell (shift c e, none)) 0; rw [duties_cell]; exact Finset.mem_univ _) (amount_cell m (shift c e) none j) () (debt l) rfl) $$ [HO Ht Hl Hl']
  · isplitr; · iexact HI
    isplitl [HO]; · iexact HO
    isplitl [Ht]; · iexact Ht
    isplitl [Hl Hl']
    · iapply (Entails.of_eq (show iprop(landing (F := F) c (slotAt j 0) ∗ landing c (slotAt j 1)) = (sched m).payload (cell (shift c e, none)) 0 j by
        rw [payload_cell]; show _ = barrierPay (shift c e) j; unfold barrierPay; rw [hj]))
      isplitl [Hl] <;> iassumption
    iexact Hr
  iintro HO
  iapply Hk
  iexists W; iexact HO

/-- The landing slots a device's sends go to. -/
def granted (c : Dev nD) : sProp 𝕄 :=
  iprop((landing (target 0 c) 0 ∗ landing (target 1 c) 1) ∗ (landing (target 2 c) 2 ∗ landing (target 3 c) 3) ∗ landing (target 4 c) 4 ∗ landing (target 5 c) 5)

theorem wp_waitBar (K : Dev nD × Option Xfer → ℕ) (c : Dev nD) {w : ℕ} (hw : w = 3) (l : List (Fin 6))
    {α : Type} {Q : α → sProp 𝕄} {k : PUnit → Prog (TpuEff nD τ sig (Elt F) Λ₀ .tc) α} :
    iprop(records m K ∗ levAts L lv ∗ owesSome c (debt (slotsDues c l)) ∗ atPos ER (cell (c, none)) 0 ∅ 0 ∗ cred (tallyAt (cell (c, none)) () 3))
      ⊢ iprop(((owesSome c (debt (slotsDues c l)) ∗ semVal (cell (c, none)) 0 ∗ granted c) -∗ runs c (k ⟨⟩) Q) -∗ runs c (.op (.semWait barrierSem w) k) Q) := by
  subst hw
  unfold owesSome
  iintro ⟨#HR, #Hlev, ⟨%W, HO⟩, Hat, Hc⟩ Hk
  ihave #HI := (records_inv m K (c, none)) $$ HR
  iapply (Rounds.wp_wait_rest_token 𝒱₀ ER (sched m) (c : Thread nD τ) none (κ := K (c, none))
      (wpE_semWait_eq 𝒱₀ (c : Thread nD τ) none Set.univ) (Set.mem_univ _) () (O := debt (slotsDues c l)) (W := W) (R := 0) (m := 0) (T := ∅)
      ((Nat.zero_add _).trans (expect_barrier m c).symm)) $$ [Hc HO Hat]
  · isplitr; · iexact HI
    isplitl [Hc]; · iexact Hc
    isplitl [HO]; · iexact HO
    isplitr; · iapply (mayWait_barrier c l); iexact Hlev
    iexact Hat
  iintro ⟨HO, Hat, -, Hpay⟩
  imod (Rounds.cell_close ER (sched m) (Set.mem_univ (K (c, none))) (fun h => h) (R := 0 + 1) (duties_later m (cell (c, none)))) $$ [Hat] with Hz
  · isplitr; · iexact HI
    iexact Hat
  iapply Hk
  isplitl [HO]; · iexists _; iexact HO
  isplitl [Hz]; · iexact Hz
  ihave Hp := (Entails.of_eq (rest_barrier m c)) $$ Hpay
  iapply (Entails.of_eq (show iprop(barrierPay (F := F) c 0 ∗ barrierPay c 1 ∗ barrierPay c 2) = granted c by
    unfold granted barrierPay; rfl))
  iexact Hp

/-! ## What the body starts from and ends in -/

/-- What one slot needs to be sent and received. -/
def slotKit (c : Dev nD) (s : Fin 6) : sProp 𝕄 := iprop(sendPos c s ∗ sendToks c s ∗ toCome c s)
/-- One slot of each of the four scratch buffers. -/
def slotBufs (c : Dev nD) (s : Fin 6) : sProp 𝕄 := iprop((codesAny codesOut c s ∗ scalesAny scalesOut c s) ∗ landing c s)
/-- One slot's four semaphores, at zero. -/
def slotZero (c : Dev nD) (s : Fin 6) : sProp 𝕄 :=
  iprop((semVal (cell (c, some (0, s))) 0 ∗ semVal (cell (c, some (2, s))) 0) ∗ semVal (cell (c, some (1, s))) 0 ∗ semVal (cell (c, some (3, s))) 0)

/-- A statement of every slot, spelt out. -/
abbrev each (Φ : Fin 6 → sProp 𝕄) : sProp 𝕄 := iprop(Φ 0 ∗ Φ 1 ∗ Φ 2 ∗ Φ 3 ∗ Φ 4 ∗ Φ 5)

/-- What device `c`'s body starts from beside the buffers. -/
def ghost (c : Dev nD) (K : Dev nD × Option Xfer → ℕ) : sProp 𝕄 :=
  iprop(records m K ∗ atPos ER (cell (c, none)) 0 ∅ 0 ∗ cred (tallyAt (cell (c, none)) () 3)
    ∗ (barrierTok c 1 2 ∗ barrierTok c 2 1 ∗ barrierTok c 3 0) ∗ each (slotKit c))

/-- What it leaves beside the staged arrays. -/
def leftover (c : Dev nD) : sProp 𝕄 := iprop(semVal (cell (c, none)) 0 ∗ each (slotZero c) ∗ each (slotBufs c))

theorem shift_back (c : Dev nD) (j : Fin 3) : shift (shift c (3 - j.val)) (j.val + 1) = c := by revert c j; decide

/-- The blocks written, in the order of writing. -/
def blk (c : Dev nD) (h : Fin 2) : Fin 8 := ⟨2 * c.val + h.val, by revert c h; decide⟩
def blkOf (c : Dev nD) (s : Fin 6) : Fin 8 := ⟨rowsOf c s, by revert c s; decide⟩

theorem all_written (c : Dev nD) : insert (blkOf c 5) (insert (blkOf c 4) (insert (blkOf c 1) (insert (blkOf c 0)
    (insert (blk c 1) (insert (blkOf c 3) (insert (blkOf c 2) (insert (blk c 0) ∅))))))) = (Finset.univ : Finset (Fin 8)) := by revert c; decide

theorem slot_done (c : Dev nD) (s : Fin 6) : iprop(sentSlot c s ∗ takenSlot c s) ⊢ iprop(slotZero (F := F) c s ∗ slotBufs c s) := by
  unfold sentSlot takenSlot slotZero slotBufs landing
  iintro ⟨⟨Hu, Hq⟩, Hv, Hl⟩
  isplitl [Hu Hv]
  · isplitl [Hu] <;> iassumption
  · isplitl [Hq] <;> iassumption

theorem off3_eq (c : Dev nD) : k0_off3 c = ![512 * (blk c 0).val, 0] := by
  rw [k0_off3_eq, show 512 * (blk c 0).val = 1024 * c.val by revert c; decide]
theorem off5_eq (c : Dev nD) : k0_off5 c = ![512 * (blk c 1).val, 0] := by
  rw [k0_off5_eq, show 512 * (blk c 1).val = 1024 * c.val + 512 by revert c; decide]
theorem off4_eq (c : Dev nD) (s : Fin 6) (r : Fin 3) (h : Fin 2) (hr : r.val = s.val / 2) (hh : h.val = s.val % 2) :
    k0_off4 c (BitVec.ofNat 32 (1 + r.val)) (BitVec.ofNat 32 (512 * h.val)) = ![512 * (blkOf c s).val, 0] := by
  rw [k0_off4_eq, show 512 * (blkOf c s).val = 1024 * (((c.val + 3) - r.val) % 4) + 512 * h.val by revert c s r h; decide]

set_option maxHeartbeats 4000000 in
theorem sound_body (c : Dev nD) (K : Dev nD × Option Xfer → ℕ) (Q : PUnit → sProp 𝕄) :
    iprop((ghost m c K ∗ levAts L lv ∗ each (slotBufs c) ∗ owesSome c (O₀ c) ∗ operands m c
        ∗ (((c : Thread nD τ).loc cc0_stg2_0) ↦{fullShare} sxIn m c) ∗ (((c : Thread nD τ).loc cc0_stg3_0) ↦{fullShare} swIn m c)
        ∗ ∃ f : Buf (Elt F) ((c : Thread nD τ).loc cc0_stg4_0), (((c : Thread nD τ).loc cc0_stg4_0) ↦{fullShare} f))
        ∗ ((leftover (F := F) c ∗ owesSome c 0 ∗ operands m c
        ∗ (((c : Thread nD τ).loc cc0_stg2_0) ↦{fullShare} sxIn m c) ∗ (((c : Thread nD τ).loc cc0_stg3_0) ↦{fullShare} swIn m c)
        ∗ (((c : Thread nD τ).loc cc0_stg4_0) ↦{fullShare} outAt m c)) -∗ Q ⟨⟩))
      ⊢ runs c (cc0_body xM (Memref.isWhole_whole _) wM (Memref.isWhole_whole _) sxM (Memref.isWhole_whole _) swM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 cc0_scratch6 cc0_scratch7) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  simp only [semSignalWord, semWaitWord, smemLoad, smemLoadElt, Prog.lift, Prog.bind_op, Prog.bind_ret, Prog.pure_eq_ret, wp_deviceId]
  unfold ghost slotKit slotBufs
  iintro ⟨⟨⟨#HR, HatB, HcB, ⟨Ht1, Ht2, Ht3⟩, ⟨⟨Hp0, Hs0, Hr0⟩, ⟨Hp1, Hs1, Hr1⟩, ⟨Hp2, Hs2, Hr2⟩, ⟨Hp3, Hs3, Hr3⟩, ⟨Hp4, Hs4, Hr4⟩, ⟨Hp5, Hs5, Hr5⟩⟩⟩, #Hlev,
    ⟨⟨⟨Hq0, Hc0⟩, Hl0⟩, ⟨⟨Hq1, Hc1⟩, Hl1⟩, ⟨⟨Hq2, Hc2⟩, Hl2⟩, ⟨⟨Hq3, Hc3⟩, Hl3⟩, ⟨⟨Hq4, Hc4⟩, Hl4⟩, ⟨⟨Hq5, Hc5⟩, Hl5⟩⟩, HO, HX, Hsx, Hsw, ⟨%f, Hout⟩⟩, Hk⟩
  iapply (wp_signalBar m K c 1 2 4 5 ⟨k0_dev1 c, k0_dev1_lt c⟩ (Fin.ext (k0_dev1_eq c)) (shift_back c 2) rfl rfl (by decide) ((shift c 2, none) :: (shift c 3, none) :: slotsDues c sendOrder)) $$ [HO Ht1 Hl4 Hl5]
  · isplitr; · iexact HR
    isplitl [HO]; · iexact HO
    isplitl [Ht1]; · iexact Ht1
    isplitl [Hl4] <;> iassumption
  iintro HO
  iapply (wp_signalBar m K c 2 1 2 3 ⟨k0_dev2 c, k0_dev2_lt c⟩ (Fin.ext (k0_dev2_eq c)) (shift_back c 1) rfl rfl (by decide) ((shift c 3, none) :: slotsDues c sendOrder)) $$ [HO Ht2 Hl2 Hl3]
  · isplitr; · iexact HR
    isplitl [HO]; · iexact HO
    isplitl [Ht2]; · iexact Ht2
    isplitl [Hl2] <;> iassumption
  iintro HO
  iapply (wp_signalBar m K c 3 0 0 1 ⟨k0_dev3 c, k0_dev3_lt c⟩ (Fin.ext (k0_dev3_eq c)) (shift_back c 0) rfl rfl (by decide) (slotsDues c sendOrder)) $$ [HO Ht3 Hl0 Hl1]
  · isplitr; · iexact HR
    isplitl [HO]; · iexact HO
    isplitl [Ht3]; · iexact Ht3
    isplitl [Hl0] <;> iassumption
  iintro HO
  iapply (wp_load_rect 𝒱₀ (c : Thread nD τ) none Set.univ (m := sxM) (r := oneRect) (Finset.subset_univ _)) $$ Hsx; iintro Hsx
  iapply (wp_load_rect 𝒱₀ (c : Thread nD τ) none Set.univ (m := swM) (r := oneRect) (Finset.subset_univ _)) $$ Hsw; iintro Hsw
  iapply (wp_stageSlot m c 2 (k0_off1_eq c 1) (P := fun x w => k0_pay5 (scale m c) (k0_pay2 x w)) (P' := fun x w => k0_pay6 (scale m c) (k0_pay2 x w))
    (rfl) (rfl)) $$ [HX Hq2 Hc2]
  · isplitl [HX]; · iexact HX
    isplitl [Hq2] <;> iassumption
  iintro ⟨HX, Hq2⟩
  iapply (wp_waitBar m K c (by decide) sendOrder) $$ [HO HatB HcB]
  · isplitr; · iexact HR
    isplitr; · iexact Hlev
    isplitl [HO]; · iexact HO
    isplitl [HatB] <;> iassumption
  iintro ⟨HO, HzB, Hg⟩
  unfold granted
  icases Hg with ⟨⟨Hg0, Hg1⟩, ⟨Hg2, Hg3⟩, Hg4, Hg5⟩
  iapply (wp_launchSlot m K c 2 ⟨k0_dev4 c, k0_dev4_lt c⟩ ⟨k0_dev5 c, k0_dev5_lt c⟩ (Fin.ext (k0_dev4_eq c)) (Fin.ext (k0_dev5_eq c)) [3, 0, 1, 4, 5]) $$ [HO Hq2 Hg2 Hs2]
  · isplitr; · iexact HR
    isplitl [Hq2]; · iexact Hq2
    isplitl [Hg2]; · iexact Hg2
    isplitl [HO] <;> iassumption
  iintro ⟨Hq2, HO⟩
  iapply (wp_stageSlot m c 3 (k0_off1_eq c 1) (P := fun x w => k0_pay10 (k0_pay9 (scale m c) x w) (Scalar.ofBits .f32 0xC2FE0000#32)) (P' := fun x w => k0_pay11 (k0_pay8 (scale m c) x w))
    (codes_first _ _ _) (scales_first _ _ _)) $$ [HX Hq3 Hc3]
  · isplitl [HX]; · iexact HX
    isplitl [Hq3] <;> iassumption
  iintro ⟨HX, Hq3⟩
  iapply (wp_launchSlot m K c 3 ⟨k0_dev6 c, k0_dev6_lt c⟩ ⟨k0_dev7 c, k0_dev7_lt c⟩ (Fin.ext (k0_dev6_eq c)) (Fin.ext (k0_dev7_eq c)) [0, 1, 4, 5]) $$ [HO Hq3 Hg3 Hs3]
  · isplitr; · iexact HR
    isplitl [Hq3]; · iexact Hq3
    isplitl [Hg3]; · iexact Hg3
    isplitl [HO] <;> iassumption
  iintro ⟨Hq3, HO⟩
  iapply (wp_stageSlot m c 0 (k0_off1_eq c 0) (P := k0_pay14 (scale m c)) (P' := fun x w => k0_pay16 (k0_pay15 (scale m c) x w))
    (codes_second _ _ _) (scales_second _ _ _)) $$ [HX Hq0 Hc0]
  · isplitl [HX]; · iexact HX
    isplitl [Hq0] <;> iassumption
  iintro ⟨HX, Hq0⟩
  iapply (wp_launchSlot m K c 0 ⟨k0_dev8 c, k0_dev8_lt c⟩ ⟨k0_dev9 c, k0_dev9_lt c⟩ (Fin.ext (k0_dev8_eq c)) (Fin.ext (k0_dev9_eq c)) [1, 4, 5]) $$ [HO Hq0 Hg0 Hs0]
  · isplitr; · iexact HR
    isplitl [Hq0]; · iexact Hq0
    isplitl [Hg0]; · iexact Hg0
    isplitl [HO] <;> iassumption
  iintro ⟨Hq0, HO⟩
  iapply (wp_stageSlot m c 1 (k0_off1_eq c 0) (P := fun x w => k0_pay20 (scale m c) (k0_pay17 x) w) (P' := fun x w => k0_pay21 (scale m c) (k0_pay17 x) w)
    (codes_third _ _ _) (scales_third _ _ _)) $$ [HX Hq1 Hc1]
  · isplitl [HX]; · iexact HX
    isplitl [Hq1] <;> iassumption
  iintro ⟨HX, Hq1⟩
  iapply (wp_launchSlot m K c 1 ⟨k0_dev10 c, k0_dev10_lt c⟩ ⟨k0_dev11 c, k0_dev11_lt c⟩ (Fin.ext (k0_dev10_eq c)) (Fin.ext (k0_dev11_eq c)) [4, 5]) $$ [HO Hq1 Hg1 Hs1]
  · isplitr; · iexact HR
    isplitl [Hq1]; · iexact Hq1
    isplitl [Hg1]; · iexact Hg1
    isplitl [HO] <;> iassumption
  iintro ⟨Hq1, HO⟩
  iapply (wp_stageSlot m c 4 (k0_off1_eq c 2) (P := fun x w => k0_pay25 (k0_pay22 (scale m c) x w) (k0_pay23 (scale m c) x w) (k0_pay24 (F := F))) (P' := fun x w => k0_pay26 (k0_pay23 (scale m c) x w))
    (codes_fourth _ _ _) (scales_fourth _ _ _)) $$ [HX Hq4 Hc4]
  · isplitl [HX]; · iexact HX
    isplitl [Hq4] <;> iassumption
  iintro ⟨HX, Hq4⟩
  iapply (wp_launchSlot m K c 4 ⟨k0_dev12 c, k0_dev12_lt c⟩ ⟨k0_dev13 c, k0_dev13_lt c⟩ (Fin.ext (k0_dev12_eq c)) (Fin.ext (k0_dev13_eq c)) [5]) $$ [HO Hq4 Hg4 Hs4]
  · isplitr; · iexact HR
    isplitl [Hq4]; · iexact Hq4
    isplitl [Hg4]; · iexact Hg4
    isplitl [HO] <;> iassumption
  iintro ⟨Hq4, HO⟩
  iapply (wp_stageSlot m c 5 (k0_off1_eq c 2) (P := k0_pay29 (scale m c)) (P' := fun x w => k0_pay31 (k0_pay30 (scale m c) x w))
    (codes_fifth _ _ _) (scales_fifth _ _ _)) $$ [HX Hq5 Hc5]
  · isplitl [HX]; · iexact HX
    isplitl [Hq5] <;> iassumption
  iintro ⟨HX, Hq5⟩
  iapply (wp_launchSlot m K c 5 ⟨k0_dev14 c, k0_dev14_lt c⟩ ⟨k0_dev15 c, k0_dev15_lt c⟩ (Fin.ext (k0_dev14_eq c)) (Fin.ext (k0_dev15_eq c)) []) $$ [HO Hq5 Hg5 Hs5]
  · isplitr; · iexact HR
    isplitl [Hq5]; · iexact Hq5
    isplitl [Hg5]; · iexact Hg5
    isplitl [HO] <;> iassumption
  iintro ⟨Hq5, HO⟩
  ihave Hf := (show (((c : Thread nD τ).loc cc0_stg4_0) ↦{fullShare} f) ⊢ filled m c ∅ by
    unfold filled; iintro H; iexists f; isplitr
    · ipureintro; exact filled_empty m c f
    · iexact H) $$ Hout
  iapply (wp_ownBlock m c 0 (blk c 0) rfl ∅ (k0_off2_eq c) (off3_eq c) (P := fun x w => k0_pay33 (scale m c) (k0_pay32 x) w) (own_first _ _ _)) $$ [HX Hf]
  · isplitl [HX] <;> iassumption
  iintro ⟨HX, Hf⟩
  iapply (wp_takeSlot m K c 2 (blkOf c 2) rfl (insert (blk c 0) ∅) (off4_eq c 2 1 0 rfl rfl) (P := k0_pay34) (fun _ _ => rfl)) $$ [HO Hr2 Hf]
  · isplitr; · iexact HR
    isplitl [HO]; · iexact HO
    isplitl [Hr2] <;> iassumption
  iintro ⟨HO, Hr2, Hf⟩
  iapply (wp_takeSlot m K c 3 (blkOf c 3) rfl (insert (blkOf c 2) (insert (blk c 0) ∅)) (off4_eq c 3 1 1 rfl rfl) (P := k0_pay35) (fun _ _ => rfl)) $$ [HO Hr3 Hf]
  · isplitr; · iexact HR
    isplitl [HO]; · iexact HO
    isplitl [Hr3] <;> iassumption
  iintro ⟨HO, Hr3, Hf⟩
  iapply (wp_ownBlock m c 1 (blk c 1) rfl (insert (blkOf c 3) (insert (blkOf c 2) (insert (blk c 0) ∅))) (k0_off2_eq c) (off5_eq c) (P := k0_pay36 (scale m c)) (rfl)) $$ [HX Hf]
  · isplitl [HX] <;> iassumption
  iintro ⟨HX, Hf⟩
  iapply (wp_takeSlot m K c 0 (blkOf c 0) rfl (insert (blk c 1) (insert (blkOf c 3) (insert (blkOf c 2) (insert (blk c 0) ∅)))) (off4_eq c 0 0 0 rfl rfl) (P := k0_pay37) (fun _ _ => rfl)) $$ [HO Hr0 Hf]
  · isplitr; · iexact HR
    isplitl [HO]; · iexact HO
    isplitl [Hr0] <;> iassumption
  iintro ⟨HO, Hr0, Hf⟩
  iapply (wp_takeSlot m K c 1 (blkOf c 1) rfl (insert (blkOf c 0) (insert (blk c 1) (insert (blkOf c 3) (insert (blkOf c 2) (insert (blk c 0) ∅))))) (off4_eq c 1 0 1 rfl rfl) (P := k0_pay38) (fun _ _ => rfl)) $$ [HO Hr1 Hf]
  · isplitr; · iexact HR
    isplitl [HO]; · iexact HO
    isplitl [Hr1] <;> iassumption
  iintro ⟨HO, Hr1, Hf⟩
  iapply (wp_takeSlot m K c 4 (blkOf c 4) rfl (insert (blkOf c 1) (insert (blkOf c 0) (insert (blk c 1) (insert (blkOf c 3) (insert (blkOf c 2) (insert (blk c 0) ∅)))))) (off4_eq c 4 2 0 rfl rfl) (P := fun q r => k0_pay40 (k0_pay39 q) r) (fun _ _ => rfl)) $$ [HO Hr4 Hf]
  · isplitr; · iexact HR
    isplitl [HO]; · iexact HO
    isplitl [Hr4] <;> iassumption
  iintro ⟨HO, Hr4, Hf⟩
  iapply (wp_takeSlot m K c 5 (blkOf c 5) rfl (insert (blkOf c 4) (insert (blkOf c 1) (insert (blkOf c 0) (insert (blk c 1) (insert (blkOf c 3) (insert (blkOf c 2) (insert (blk c 0) ∅))))))) (off4_eq c 5 2 1 rfl rfl) (P := k0_pay41) (fun _ _ => rfl)) $$ [HO Hr5 Hf]
  · isplitr; · iexact HR
    isplitl [HO]; · iexact HO
    isplitl [Hr5] <;> iassumption
  iintro ⟨HO, Hr5, Hf⟩
  iapply (wp_sentSlot m K c 2) $$ [HO Hp2 Hq2]
  · isplitr; · iexact HR
    isplitl [HO]; · iexact HO
    isplitl [Hp2] <;> iassumption
  iintro ⟨HO, Hp2⟩
  iapply (wp_sentSlot m K c 3) $$ [HO Hp3 Hq3]
  · isplitr; · iexact HR
    isplitl [HO]; · iexact HO
    isplitl [Hp3] <;> iassumption
  iintro ⟨HO, Hp3⟩
  iapply (wp_sentSlot m K c 0) $$ [HO Hp0 Hq0]
  · isplitr; · iexact HR
    isplitl [HO]; · iexact HO
    isplitl [Hp0] <;> iassumption
  iintro ⟨HO, Hp0⟩
  iapply (wp_sentSlot m K c 1) $$ [HO Hp1 Hq1]
  · isplitr; · iexact HR
    isplitl [HO]; · iexact HO
    isplitl [Hp1] <;> iassumption
  iintro ⟨HO, Hp1⟩
  iapply (wp_sentSlot m K c 4) $$ [HO Hp4 Hq4]
  · isplitr; · iexact HR
    isplitl [HO]; · iexact HO
    isplitl [Hp4] <;> iassumption
  iintro ⟨HO, Hp4⟩
  iapply (wp_sentSlot m K c 5) $$ [HO Hp5 Hq5]
  · isplitr; · iexact HR
    isplitl [HO]; · iexact HO
    isplitl [Hp5] <;> iassumption
  iintro ⟨HO, Hp5⟩
  rw [all_written c]
  unfold filled
  icases Hf with ⟨%g, %hg, Hf⟩
  have hg := filled_univ m c g hg
  subst hg
  unfold runs; rw [wp_ret]; imodintro
  iapply Hk
  ihave ⟨Hu0, Hv0⟩ := (slot_done c 0) $$ [Hp0 Hr0]
  · isplitl [Hp0] <;> iassumption
  ihave ⟨Hu1, Hv1⟩ := (slot_done c 1) $$ [Hp1 Hr1]
  · isplitl [Hp1] <;> iassumption
  ihave ⟨Hu2, Hv2⟩ := (slot_done c 2) $$ [Hp2 Hr2]
  · isplitl [Hp2] <;> iassumption
  ihave ⟨Hu3, Hv3⟩ := (slot_done c 3) $$ [Hp3 Hr3]
  · isplitl [Hp3] <;> iassumption
  ihave ⟨Hu4, Hv4⟩ := (slot_done c 4) $$ [Hp4 Hr4]
  · isplitl [Hp4] <;> iassumption
  ihave ⟨Hu5, Hv5⟩ := (slot_done c 5) $$ [Hp5 Hr5]
  · isplitl [Hp5] <;> iassumption
  unfold leftover
  isplitr [HO HX Hsx Hsw Hf]
  · isplitl [HzB]; · iexact HzB
    isplitl [Hu0 Hu1 Hu2 Hu3 Hu4 Hu5]
    · isplitl [Hu0]; · iexact Hu0
      isplitl [Hu1]; · iexact Hu1
      isplitl [Hu2]; · iexact Hu2
      isplitl [Hu3]; · iexact Hu3
      isplitl [Hu4]; · iexact Hu4
      iexact Hu5
    · isplitl [Hv0]; · iexact Hv0
      isplitl [Hv1]; · iexact Hv1
      isplitl [Hv2]; · iexact Hv2
      isplitl [Hv3]; · iexact Hv3
      isplitl [Hv4]; · iexact Hv4
      iexact Hv5
  isplitl [HO]; · iexact HO
  isplitl [HX]; · iexact HX
  isplitl [Hsx]; · iexact Hsx
  isplitl [Hsw] <;> iassumption

end Cert.Exchange
-- ==== Proof.Cut.lean ====
/-
# Cutting and dealing

The sums over slots, semaphores and devices that the launch rearranges, and the scratch buffers cut into their six slots.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over slots and semaphores -/

omit [FloatOps F] in
/-- Entailments summand by summand, -/
theorem bigSep_le {ι : Type} [Fintype ι] {Φ Ψ : ι → sProp 𝕄} (h : ∀ i, Φ i ⊢ Ψ i) : bigSep Finset.univ Φ ⊢ bigSep Finset.univ Ψ := bigSep_mono fun i _ => h i
omit [FloatOps F] in
/-- and side by side. -/
theorem sep_le {P P' Q Q' : sProp 𝕄} (h : P ⊢ P') (h' : Q ⊢ Q') : iprop(P ∗ Q) ⊢ iprop(P' ∗ Q') := BI.sep_mono h h'

omit [FloatOps F] in
theorem each_eq (Φ : Fin 6 → sProp 𝕄) : bigSep Finset.univ Φ = each Φ := bigSep_univ_eq_bigSepL [0, 1, 2, 3, 4, 5] (by decide) (by decide) Φ

omit [FloatOps F] in
/-- All of a device's semaphores: the barrier's and the transfers'. -/
theorem bigSep_cells (Φ : Option Xfer → sProp 𝕄) : bigSep Finset.univ Φ = iprop(Φ none ∗ bigSep Finset.univ fun k : Xfer => Φ (some k)) := by
  rw [bigSep_univ_at Φ none, show (Finset.univ : Finset (Option Xfer)).erase none = Finset.univ.map Function.Embedding.some by decide, bigSep_map]
  rfl

omit [FloatOps F] in
/-- The transfers', slot by slot. -/
theorem bigSep_xfers (Φ : Xfer → sProp 𝕄) : bigSep Finset.univ Φ = bigSep Finset.univ fun s : Fin 6 => iprop(Φ (0, s) ∗ Φ (1, s) ∗ Φ (2, s) ∗ Φ (3, s)) := by
  rw [bigSep_univ_prod, bigSep_univ_comm]
  exact bigSep_congr fun s _ => bigSep_univ_eq_bigSepL [0, 1, 2, 3] (by decide) (by decide) _

omit [FloatOps F] in
/-- Summing over the devices, each index's summand may be taken at another device. -/
theorem bigSep_reroute {ι : Type} [Fintype ι] (e : ι → Dev nD ≃ Dev nD) (Φ : Dev nD → ι → sProp 𝕄) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (e i) fun c => Φ c i

/-! ## Cutting the scratch buffers into slots -/

/-- The elements of slot `s` of a buffer of codes. -/
def codesPart (b : Memref sig .tc .vmem S6x512x512 .i8) (s : Fin 6) : Finset b.view.ty.Idx := b.view.setOn (codesRect s).set
theorem codesPart_disjoint (b : Memref sig .tc .vmem S6x512x512 .i8) (s s' : Fin 6) (h : s ≠ s') : Disjoint (codesPart b s) (codesPart b s') :=
  (Finset.disjoint_map _).mpr (Rect.unit_disjoint 0 (by revert s s' h; decide))
theorem codesPart_cover (b : Memref sig .tc .vmem S6x512x512 .i8) (hb : b.view.set = Finset.univ) : Finset.univ.biUnion (codesPart b) = Finset.univ := by
  refine Finset.eq_univ_of_forall fun i => ?_
  obtain ⟨x, -, rfl⟩ := Finset.mem_map.mp (hb ▸ Finset.mem_univ i : i ∈ b.view.set)
  refine Finset.mem_biUnion.mpr ⟨(x 0 : Fin 6), Finset.mem_univ _, Finset.mem_map_of_mem _ (Rect.mem_set_unit.mpr fun a => ?_)⟩
  match a with
  | 0 => exact ⟨le_rfl, Nat.lt_succ_self _⟩
  | 1 => exact ⟨Nat.zero_le _, by show _ < 0 + 512; rw [Nat.zero_add]; exact (x 1).isLt⟩
  | 2 => exact ⟨Nat.zero_le _, by show _ < 0 + 512; rw [Nat.zero_add]; exact (x 2).isLt⟩

omit [FloatOps F] in
theorem codesAny_eq (b : Memref sig .tc .vmem S6x512x512 .i8) (c : Dev nD) (s : Fin 6) :
    (codesAny b c s : sProp 𝕄) = iprop(∃ f : Buf (Elt F) (b.view.loc (c : Thread nD τ)), b.view.loc (c : Thread nD τ) ↦[codesPart b s]{fullShare} f) :=
  congrArg (fun I : Finset b.view.ty.Idx => iprop(∃ f : Buf (Elt F) (b.view.loc (c : Thread nD τ)), b.view.loc (c : Thread nD τ) ↦[I]{fullShare} f))
    ((View.set_reshape (b.view.slice (codesRect s)) squeezes_S1x512x512_S512x512.numel_eq).trans (View.set_slice _ _))

omit [FloatOps F] in
/-- A buffer of codes held whole is held slot by slot; -/
theorem codes_cut (b : Memref sig .tc .vmem S6x512x512 .i8) (hb : b.view.set = Finset.univ) (c : Dev nD) :
    iprop(∃ f : Buf (Elt F) (b.view.loc (c : Thread nD τ)), b.view.loc (c : Thread nD τ) ↦{fullShare} f) ⊢ (bigSep Finset.univ (codesAny b c) : sProp 𝕄) := by
  rw [bigSep_congr fun s _ => codesAny_eq b c s]
  iintro ⟨%f, H⟩
  ihave H' := (Entails.of_eq (Ring.pointsTo_blocks (codesPart b) (codesPart_disjoint b) (codesPart_cover b hb) f)) $$ H
  iapply (show (bigSep Finset.univ fun s => (b.view.loc (c : Thread nD τ) ↦[codesPart b s]{fullShare} f) : sProp 𝕄)
      ⊢ bigSep Finset.univ fun s => iprop(∃ f : Buf (Elt F) (b.view.loc (c : Thread nD τ)), b.view.loc (c : Thread nD τ) ↦[codesPart b s]{fullShare} f) from
    bigSep_mono fun s _ => exists_intro (Φ := fun f : Buf (Elt F) (b.view.loc (c : Thread nD τ)) => (b.view.loc (c : Thread nD τ) ↦[codesPart b s]{fullShare} f : sProp 𝕄)) f)
  iexact H'

/-- and back. -/
theorem codes_join (b : Memref sig .tc .vmem S6x512x512 .i8) (hb : b.view.set = Finset.univ) (c : Dev nD) (f₀ : Buf (Elt F) (b.view.loc (c : Thread nD τ))) :
    (bigSep Finset.univ (codesAny b c) : sProp 𝕄) ⊢ iprop(∃ f : Buf (Elt F) (b.view.loc (c : Thread nD τ)), b.view.loc (c : Thread nD τ) ↦{fullShare} f) := by
  rw [bigSep_congr fun s _ => codesAny_eq b c s]
  exact Ring.pointsTo_blocks_join_exists (nD := nD) (τ := τ) (sig := sig) (Ix := Unit) (Val := Elt F) (Name := ℕ) (U := UU) (Lvl := ℕ) (ℓ := b.view.loc (c : Thread nD τ)) (q := fullShare) (codesPart b) (codesPart_disjoint b) (codesPart_cover b hb) f₀

/-- The elements of slot `s` of a buffer of scales. -/
def scalesPart (b : Memref sig .tc .vmem S6x8x512 .f32) (s : Fin 6) : Finset b.view.ty.Idx := b.view.setOn (scalesRect s).set
theorem scalesPart_disjoint (b : Memref sig .tc .vmem S6x8x512 .f32) (s s' : Fin 6) (h : s ≠ s') : Disjoint (scalesPart b s) (scalesPart b s') :=
  (Finset.disjoint_map _).mpr (Rect.unit_disjoint 0 (by revert s s' h; decide))
theorem scalesPart_cover (b : Memref sig .tc .vmem S6x8x512 .f32) (hb : b.view.set = Finset.univ) : Finset.univ.biUnion (scalesPart b) = Finset.univ := by
  refine Finset.eq_univ_of_forall fun i => ?_
  obtain ⟨x, -, rfl⟩ := Finset.mem_map.mp (hb ▸ Finset.mem_univ i : i ∈ b.view.set)
  refine Finset.mem_biUnion.mpr ⟨(x 0 : Fin 6), Finset.mem_univ _, Finset.mem_map_of_mem _ (Rect.mem_set_unit.mpr fun a => ?_)⟩
  match a with
  | 0 => exact ⟨le_rfl, Nat.lt_succ_self _⟩
  | 1 => exact ⟨Nat.zero_le _, by show _ < 0 + 8; rw [Nat.zero_add]; exact (x 1).isLt⟩
  | 2 => exact ⟨Nat.zero_le _, by show _ < 0 + 512; rw [Nat.zero_add]; exact (x 2).isLt⟩

omit [FloatOps F] in
theorem scalesAny_eq (b : Memref sig .tc .vmem S6x8x512 .f32) (c : Dev nD) (s : Fin 6) :
    (scalesAny b c s : sProp 𝕄) = iprop(∃ f : Buf (Elt F) (b.view.loc (c : Thread nD τ)), b.view.loc (c : Thread nD τ) ↦[scalesPart b s]{fullShare} f) :=
  congrArg (fun I : Finset b.view.ty.Idx => iprop(∃ f : Buf (Elt F) (b.view.loc (c : Thread nD τ)), b.view.loc (c : Thread nD τ) ↦[I]{fullShare} f))
    ((View.set_reshape (b.view.slice (scalesRect s)) squeezes_S1x8x512_S8x512.numel_eq).trans (View.set_slice _ _))

omit [FloatOps F] in
/-- A buffer of scales held whole is held slot by slot; -/
theorem scales_cut (b : Memref sig .tc .vmem S6x8x512 .f32) (hb : b.view.set = Finset.univ) (c : Dev nD) :
    iprop(∃ f : Buf (Elt F) (b.view.loc (c : Thread nD τ)), b.view.loc (c : Thread nD τ) ↦{fullShare} f) ⊢ (bigSep Finset.univ (scalesAny b c) : sProp 𝕄) := by
  rw [bigSep_congr fun s _ => scalesAny_eq b c s]
  iintro ⟨%f, H⟩
  ihave H' := (Entails.of_eq (Ring.pointsTo_blocks (scalesPart b) (scalesPart_disjoint b) (scalesPart_cover b hb) f)) $$ H
  iapply (show (bigSep Finset.univ fun s => (b.view.loc (c : Thread nD τ) ↦[scalesPart b s]{fullShare} f) : sProp 𝕄)
      ⊢ bigSep Finset.univ fun s => iprop(∃ f : Buf (Elt F) (b.view.loc (c : Thread nD τ)), b.view.loc (c : Thread nD τ) ↦[scalesPart b s]{fullShare} f) from
    bigSep_mono fun s _ => exists_intro (Φ := fun f : Buf (Elt F) (b.view.loc (c : Thread nD τ)) => (b.view.loc (c : Thread nD τ) ↦[scalesPart b s]{fullShare} f : sProp 𝕄)) f)
  iexact H'

/-- and back. -/
theorem scales_join (b : Memref sig .tc .vmem S6x8x512 .f32) (hb : b.view.set = Finset.univ) (c : Dev nD) (f₀ : Buf (Elt F) (b.view.loc (c : Thread nD τ))) :
    (bigSep Finset.univ (scalesAny b c) : sProp 𝕄) ⊢ iprop(∃ f : Buf (Elt F) (b.view.loc (c : Thread nD τ)), b.view.loc (c : Thread nD τ) ↦{fullShare} f) := by
  rw [bigSep_congr fun s _ => scalesAny_eq b c s]
  exact Ring.pointsTo_blocks_join_exists (nD := nD) (τ := τ) (sig := sig) (Ix := Unit) (Val := Elt F) (Name := ℕ) (U := UU) (Lvl := ℕ) (ℓ := b.view.loc (c : Thread nD τ)) (q := fullShare) (scalesPart b) (scalesPart_disjoint b) (scalesPart_cover b hb) f₀

end Cert.Exchange
-- ==== Proof.Launch.lean ====
/-
# The launch

From the memory at launch to the memory at the end, on all four devices at once: the semaphores become the exchange's cells,
the duty tokens are dealt to the devices that pay them, the scratch buffers are cut into slots, and the body's triple is
handed to the pipeline's launch theorem.
-/
module

public import proofs.«01_k».proof.Proof.Body
public import proofs.«01_k».proof.Proof.Cut
public import Idealize.ShloMosaic.Lib.Pipeline.CollectiveSegs
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: all semaphores at zero. -/
def s₀ : MemSt nD τ sig (Elt F) := ⟨m, fun _ => 0, ρ⟩

/-! ## What a device starts with -/

/-- The tokens of the duties that device `c` pays. -/
def payToks (c : Dev nD) : sProp 𝕄 :=
  iprop((bigSep Finset.univ fun j : Fin 3 => barrierTok (F := F) c (3 - j.val) j) ∗ bigSep Finset.univ fun s : Fin 6 => sendToks (F := F) c s)
/-- Its positions and those tokens. -/
def linear (c : Dev nD) : sProp 𝕄 :=
  iprop((bigSep Finset.univ fun i : Option Xfer => atPos ER (cell (c, i)) 0 ∅ 0) ∗ payToks c)
/-- Its share of the exchange: the invariants of all cells, and what it holds alone. -/
def dealt (c : Dev nD) : sProp 𝕄 := iprop(∃ K, records m K ∗ linear c)
/-- The credit for what others will pay it. -/
def credit (c : Dev nD) : sProp 𝕄 :=
  iprop(cred (tallyAt (cell (c, none)) () 3)
    ∗ bigSep Finset.univ fun s : Fin 6 => iprop(cred (tallyAt (cell (c, some (1, s))) () (pay (some (1, s)))) ∗ cred (tallyAt (cell (c, some (3, s))) () (pay (some (3, s))))))
def start (c : Dev nD) : sProp 𝕄 := iprop(dealt m c ∗ credit c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => sxIn m c
    | ⟨3, _⟩ => swIn m c
    | ⟨4, _⟩ => outAt m c
  Φ t := match t with
    | ⟨0, _⟩ => iprop(start m c ∗ each (slotBufs (F := F) c))
    | ⟨_ + 1, _⟩ => leftover (F := F) c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body's obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c`, holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owesAt_first (c : Dev nD) [FloatOps F] : (dats m ρ 0 c).owesAt () t0_0.castSucc ⊢ owesSome (F := F) c (O₀ c) := by
  unfold Dat.owesAt Pipeline.owesWithin owesSome
  iintro ⟨%W, -, H⟩; iexists W; iexact H
theorem owesAt_last (c : Dev nD) : owesSome (F := F) c 0 ⊢ (dats m ρ 0 c).owesAt () t0_0.succ := by
  unfold Dat.owesAt Pipeline.owesWithin owesSome
  iintro ⟨%W, H⟩; iexists W
  isplitr; · ipureintro; exact fun _ _ => Or.inl trivial
  iexact H

/-- The parts a device starts with, arranged as its body takes them. -/
theorem ghost_intro (c : Dev nD) (K : Dev nD × Option Xfer → ℕ) : iprop(records m K ∗ linear c ∗ credit c) ⊢ ghost m c K := by
  unfold ghost linear credit payToks
  rw [bigSep_cells, bigSep_xfers, ← each_eq, show (bigSep Finset.univ fun j : Fin 3 => barrierTok (F := F) c (3 - j.val) j) = iprop(barrierTok c 1 2 ∗ barrierTok c 2 1 ∗ barrierTok c 3 0) from
    bigSep_univ_eq_bigSepL [2, 1, 0] (by decide) (by decide) _]
  iintro ⟨HR, ⟨⟨HaB, Hat⟩, HtB, Hts⟩, HcB, Hcs⟩
  isplitl [HR]; · iexact HR
  isplitl [HaB]; · iexact HaB
  isplitl [HcB]; · iexact HcB
  isplitl [HtB]; · iexact HtB
  iapply (show iprop((bigSep Finset.univ fun s : Fin 6 => iprop(atPos ER (cell (c, some (0, s))) 0 ∅ 0 ∗ atPos ER (cell (c, some (1, s))) 0 ∅ 0 ∗ atPos ER (cell (c, some (2, s))) 0 ∅ 0 ∗ atPos ER (cell (c, some (3, s))) 0 ∅ 0))
      ∗ (bigSep Finset.univ fun s : Fin 6 => sendToks (F := F) c s)
      ∗ bigSep Finset.univ fun s : Fin 6 => iprop(cred (tallyAt (cell (c, some (1, s))) () (pay (some (1, s)))) ∗ cred (tallyAt (cell (c, some (3, s))) () (pay (some (3, s))))))
      ⊢ (bigSep Finset.univ (slotKit (F := F) c) : sProp 𝕄) from by
    rw [← bigSep_sep', ← bigSep_sep']
    refine bigSep_le fun s => ?_
    unfold slotKit sendPos toCome ready
    iintro ⟨⟨H0, H1, H2, H3⟩, Ht, Hc1, Hc3⟩
    isplitl [H0 H2]; · isplitl [H0] <;> iassumption
    isplitl [Ht]; · iexact Ht
    isplitl [H1 Hc1]; · isplitl [H1] <;> iassumption
    isplitl [H3] <;> iassumption)
  isplitl [Hat]; · iexact Hat
  isplitl [Hts] <;> iassumption

def bodyPre (c : Dev nD) : sProp 𝕄 :=
  iprop((start m c ∗ each (slotBufs (F := F) c)) ∗ (dats m ρ 0 c).owesAt () t0_0.castSucc
    ∗ (∃ d, staged c cc0_stg0_0 ((dats m ρ 0 c).before (0 : Fin 5) t0_0 d))
    ∗ (∃ d, staged c cc0_stg1_0 ((dats m ρ 0 c).before (1 : Fin 5) t0_0 d))
    ∗ (∃ d, staged c cc0_stg2_0 ((dats m ρ 0 c).before (2 : Fin 5) t0_0 d))
    ∗ (∃ d, staged c cc0_stg3_0 ((dats m ρ 0 c).before (3 : Fin 5) t0_0 d))
    ∗ (∃ d, staged c cc0_stg4_0 ((dats m ρ 0 c).before (4 : Fin 5) t0_0 d)))
def bodyPost (c : Dev nD) : sProp 𝕄 :=
  iprop(leftover (F := F) c ∗ (dats m ρ 0 c).owesAt () t0_0.succ
    ∗ staged c cc0_stg0_0 (xIn m c) ∗ staged c cc0_stg1_0 (wIn m c) ∗ staged c cc0_stg2_0 (sxIn m c) ∗ staged c cc0_stg3_0 (swIn m c) ∗ staged c cc0_stg4_0 (outAt m c))

theorem before_x (c : Dev nD) (d) : (dats m ρ 0 c).before (0 : Fin 5) t0_0 d = xIn m c := by unfold Dat.before; rw [if_pos (fetch0_0 t0_0)]; rfl
theorem before_w (c : Dev nD) (d) : (dats m ρ 0 c).before (1 : Fin 5) t0_0 d = wIn m c := by unfold Dat.before; rw [if_pos (fetch0_1 t0_0)]; rfl
theorem before_sx (c : Dev nD) (d) : (dats m ρ 0 c).before (2 : Fin 5) t0_0 d = sxIn m c := by unfold Dat.before; rw [if_pos (fetch0_2 t0_0)]; rfl
theorem before_sw (c : Dev nD) (d) : (dats m ρ 0 c).before (3 : Fin 5) t0_0 d = swIn m c := by unfold Dat.before; rw [if_pos (fetch0_3 t0_0)]; rfl

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ runs c (cc0_body xM (Memref.isWhole_whole _) wM (Memref.isWhole_whole _) sxM (Memref.isWhole_whole _) swM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 cc0_scratch6 cc0_scratch7)
    (fun _ => bodyPost m ρ c)
  unfold bodyPre start dealt
  iintro ⟨⟨⟨⟨%K, HR, Hl⟩, Hcr, Hlev⟩, Hb⟩, Ho, ⟨%d0, %g0, %h0, Hx⟩, ⟨%d1, %g1, %h1, Hw⟩, ⟨%d2, %g2, %h2, Hsx⟩, ⟨%d3, %g3, %h3, Hsw⟩, ⟨%d4, %g4, -, Hout⟩⟩
  obtain rfl := h0.trans (before_x m ρ c d0)
  obtain rfl := h1.trans (before_w m ρ c d1)
  obtain rfl := h2.trans (before_sx m ρ c d2)
  obtain rfl := h3.trans (before_sw m ρ c d3)
  iapply (sound_body m c K fun _ => bodyPost m ρ c)
  isplitr []
  · isplitl [HR Hl Hcr]
    · iapply (ghost_intro m c K)
      isplitl [HR]; · iexact HR
      isplitl [Hl] <;> iassumption
    isplitl [Hlev]; · iexact Hlev
    isplitl [Hb]; · iexact Hb
    isplitl [Ho]; · iapply (owesAt_first m ρ c); iexact Ho
    isplitl [Hx Hw]; · unfold operands; isplitl [Hx] <;> iassumption
    isplitl [Hsx]; · iexact Hsx
    isplitl [Hsw]; · iexact Hsw
    iexists g4; iexact Hout
  · unfold operands bodyPost
    iintro ⟨Hl, Ho, ⟨Hx, Hw⟩, Hsx, Hsw, Hout⟩
    isplitl [Hl]; · iexact Hl
    isplitl [Ho]; · iapply (owesAt_last m ρ c); iexact Ho
    isplitl [Hx]; · iexists _; isplitr; · (ipureintro; rfl)
                    iexact Hx
    isplitl [Hw]; · iexists _; isplitr; · (ipureintro; rfl)
                    iexact Hw
    isplitl [Hsx]; · iexists _; isplitr; · (ipureintro; rfl)
                     iexact Hsx
    isplitl [Hsw]; · iexists _; isplitr; · (ipureintro; rfl)
                     iexact Hsw
    iexists _; isplitr; · (ipureintro; rfl)
    iexact Hout

/-! ## Founding the exchange's cells -/

def exchCells : Finset (GSem nD τ sig) := Finset.univ.map ⟨cell, cell_injective⟩

/-- The duty tokens of the cells: three for a barrier, one for a transfer's semaphore. -/
abbrev tokOf (x : Dev nD × (Fin 3 ⊕ Xfer)) : GSem nD τ sig × ℕ × Fin 3 := match x.2 with
  | .inl j => (cell (x.1, none), 0, j)
  | .inr k => (cell (x.1, some k), 0, 0)
theorem tokOf_injective : Function.Injective tokOf := by
  rintro ⟨c, i⟩ ⟨c', i'⟩ h
  rcases i with j | k <;> rcases i' with j' | k' <;> obtain ⟨h₁, h₂⟩ := Prod.mk.inj h <;> have h₃ := Prod.mk.inj (cell_injective h₁)
  · exact Prod.ext h₃.1 (congrArg Sum.inl (Prod.mk.inj h₂).2)
  · exact nomatch h₃.2
  · exact nomatch h₃.2
  · exact Prod.ext h₃.1 (congrArg Sum.inr (Option.some.inj h₃.2))
def exchToks : Finset (GSem nD τ sig × ℕ × Fin 3) := Finset.univ.map ⟨tokOf, tokOf_injective⟩

def u₀ : UU := (initOf (Pipeline.cells cfgs cellOf_inj) (Pipeline.launchToks cfgs cellOf_inj), initOf exchCells exchToks)

/-- The tokens of device `c`'s own cells. -/
def ownToks (c : Dev nD) : sProp 𝕄 :=
  iprop((bigSep Finset.univ fun j : Fin 3 => dutyTok ER (cell (c, none)) 0 j) ∗ bigSep Finset.univ fun k : Xfer => dutyTok ER (cell (c, some k)) 0 0)
/-- What the launch deals device `c`. -/
def founded (c : Dev nD) : sProp 𝕄 :=
  iprop((bigSep Finset.univ fun i : Option Xfer => roundState ER (sched m) (cell (c, i)) 0)
    ∗ (bigSep Finset.univ fun i : Option Xfer => iprop(atPos ER (cell (c, i)) 0 ∅ 0 ∗ reached ER (cell (c, i)) 0)) ∗ ownToks c)

theorem bigSep_sum {ι κ : Type} [Fintype ι] [Fintype κ] [DecidableEq ι] [DecidableEq κ] (Φ : ι ⊕ κ → sProp 𝕄) :
    bigSep Finset.univ Φ = iprop((bigSep Finset.univ fun i => Φ (.inl i)) ∗ bigSep Finset.univ fun k => Φ (.inr k)) := by
  rw [show (Finset.univ : Finset (ι ⊕ κ)) = Finset.univ.map Function.Embedding.inl ∪ Finset.univ.map Function.Embedding.inr by
      ext x; rcases x <;> simp,
    bigSep_union (by rw [Finset.disjoint_left]; simp), bigSep_map, bigSep_map]
  rfl

theorem found : BI.own (ER (initOf exchCells exchToks)) ⊢ (|==> bigSep Finset.univ (founded m) : sProp 𝕄) := by
  have hX (Φ : GSem nD τ sig → sProp 𝕄) : bigSep exchCells Φ = bigSep Finset.univ fun c : Dev nD => bigSep Finset.univ fun i : Option Xfer => Φ (cell (c, i)) := by
    unfold exchCells; rw [bigSep_map, bigSep_univ_prod]; rfl
  have hT : bigSep exchToks (fun x => (dutyTok ER x.1 x.2.1 x.2.2 : sProp 𝕄)) = bigSep Finset.univ fun c : Dev nD => ownToks c := by
    unfold exchToks; rw [bigSep_map, bigSep_univ_prod]
    exact bigSep_congr fun c _ => by unfold ownToks; rw [bigSep_sum]; rfl
  iintro HX
  imod (Rounds.fund ER (sched m) exchCells exchToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold founded; simp only [bigSep_sep']
  isplitl [Hst']; · iexact Hst'
  isplitl [Hat' Hr']
  · isplitl [Hat'] <;> iassumption
  iexact Htok'

/-! ## Semaphores to invariants, tokens to their payers -/

theorem ownSemFacts : Pipeline.OwnSemFacts cfg0.spec xferSem := by decide

theorem unscopedSems0_eq (c : Dev nD) : (unscopedSems0 c : sProp 𝕄) = semVal (cell (c, none)) 0 := by
  unfold unscopedSems0; rw [bigSep_eq_bigSepL_of_eq [SemLoc.reg barrierSem] (by decide) (by decide)]; rfl
theorem ownSems0_eq (c : Dev nD) : (Pipeline.ownSems0 (Ix := Unit) (Name := ℕ) (U := UU) (Lvl := ℕ) (Val := Elt F) (τ := τ) xferSem c : sProp 𝕄)
    = bigSep Finset.univ fun k : Xfer => semVal (cell (c, some k)) 0 := rfl
theorem sems0_eq (c : Dev nD) :
    iprop(Pipeline.ownSems0 (Ix := Unit) (Name := ℕ) (U := UU) (Lvl := ℕ) (Val := Elt F) (τ := τ) xferSem c ∗ unscopedSems0 c)
      ⊢ (bigSep Finset.univ fun i : Option Xfer => semVal (cell (c, i)) 0 : sProp 𝕄) := by
  rw [ownSems0_eq, unscopedSems0_eq, bigSep_cells]
  iintro ⟨HX, HB⟩
  isplitl [HB] <;> iassumption

theorem core_alloc (c : Dev nD) :
    iprop(Pipeline.ownSems0 (Ix := Unit) (Name := ℕ) (U := UU) (Lvl := ℕ) (Val := Elt F) (τ := τ) xferSem c ∗ unscopedSems0 c ∗ founded m c)
      ⊢ |={Set.univ}=> iprop((bigSep Finset.univ fun i => iprop(∃ κ : ℕ, cellInv ER (sched m) κ (cell (c, i))))
          ∗ (bigSep Finset.univ fun i => iprop(atPos ER (cell (c, i)) 0 ∅ 0 ∗ reached ER (cell (c, i)) 0)) ∗ ownToks c) := by
  unfold founded
  iintro ⟨Hos, Hus, Hst, Hat, Htok⟩
  ihave Hv := (sems0_eq (F := F) c) $$ [Hos Hus]
  · isplitl [Hos] <;> iassumption
  imod (show iprop((bigSep Finset.univ fun i : Option Xfer => semVal (cell (c, i)) 0) ∗ bigSep Finset.univ fun i : Option Xfer => roundState ER (sched m) (cell (c, i)) 0)
      ⊢ (|={Set.univ}=> bigSep Finset.univ fun i => iprop(∃ κ : ℕ, cellInv ER (sched m) κ (cell (c, i))) : sProp 𝕄) from by
        rw [← bigSep_sep']
        exact (bigSep_mono fun i _ => (Rounds.body_intro ER (sched m) (cell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The device whose barrier `c` signals with duty `j`. -/
def greet (j : Fin 3) : Dev nD ≃ Dev nD :=
  ⟨fun c => shift c (3 - j.val), fun c => shift c (j.val + 1), fun c => shift_back c j, fun c => by revert c j; decide⟩
/-- The device that pays a transfer's duty: at a send semaphore its own device, at a receive semaphore the sender. -/
def payee (k : Xfer) : Dev nD ≃ Dev nD := if k.1.val % 2 = 1 then route k.2 else Equiv.refl _

theorem toks_around : (bigSep Finset.univ fun c : Dev nD => (ownToks c : sProp 𝕄)) ⊢ bigSep Finset.univ fun c : Dev nD => payToks c := by
  unfold ownToks payToks
  rw [bigSep_sep', bigSep_sep', bigSep_reroute greet fun c j => (dutyTok ER (cell (c, none)) 0 j : sProp 𝕄),
    bigSep_reroute payee fun c k => (dutyTok ER (cell (c, some k)) 0 0 : sProp 𝕄)]
  refine sep_le (Entails.refl _) (bigSep_le fun c => ?_)
  rw [bigSep_xfers]
  refine bigSep_le fun s => ?_
  rw [show payee (0, s) = Equiv.refl _ from if_neg (by decide : ¬(0 : ℕ) % 2 = 1), show payee (1, s) = route s from if_pos (by decide : (1 : ℕ) % 2 = 1),
    show payee (2, s) = Equiv.refl _ from if_neg (by decide : ¬(2 : ℕ) % 2 = 1), show payee (3, s) = route s from if_pos (by decide : (3 : ℕ) % 2 = 1)]
  show iprop(dutyTok ER (cell (c, some (0, s))) 0 0 ∗ dutyTok ER (cell (target s c, some (1, s))) 0 0
    ∗ dutyTok ER (cell (c, some (2, s))) 0 0 ∗ dutyTok ER (cell (target s c, some (3, s))) 0 0) ⊢ _
  unfold sendToks
  iintro ⟨H0, H1, H2, H3⟩
  isplitl [H0 H1]; · isplitl [H0] <;> iassumption
  isplitl [H2] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (cell (c, i))))
          ∗ (bigSep Finset.univ fun i => iprop(atPos ER (cell (c, i)) 0 ∅ 0 ∗ reached ER (cell (c, i)) 0)) ∗ ownToks c) : sProp 𝕄)
      ⊢ bigSep Finset.univ (dealt m) := by
  rw [bigSep_sep', bigSep_sep', ← bigSep_univ_prod (fun x : Dev nD × Option Xfer => iprop(∃ κ : ℕ, cellInv ER (sched m) κ (cell x))),
    bigSep_congr (s := Finset.univ) (fun (c : Dev nD) _ => bigSep_sep' Finset.univ (fun i : Option Xfer => (atPos ER (cell (c, i)) 0 ∅ 0 : sProp 𝕄)) (fun i => reached ER (cell (c, i)) 0)),
    bigSep_sep', ← bigSep_univ_prod (fun x : Dev nD × Option Xfer => (reached ER (cell x) 0 : sProp 𝕄))]
  iintro ⟨HI, ⟨Hat, #HR⟩, Htok⟩
  ihave HK := (BI.bigSep_exists_pi Finset.univ (fun (x : Dev nD × Option Xfer) (κ : ℕ) => (cellInv ER (sched m) κ (cell x) : sProp 𝕄))) $$ HI
  icases HK with ⟨%K, #HI⟩
  ihave Htk := (toks_around (F := F)) $$ Htok
  iapply (bigSep_with_persistent (R := records m K) (Φ := linear) fun c _ => show iprop(records m K ∗ linear c) ⊢ dealt m c from
    exists_intro (Φ := fun K => iprop(records m K ∗ linear c)) K)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) xferSem c ∗ unscopedSems0 c ∗ founded m c) : sProp 𝕄)
    ⊢ |={Set.univ}=> bigSep Finset.univ (dealt m) :=
  ((bigSep_mono fun c _ => core_alloc m c).trans (bigSep_fupd _ _)).trans (BI.fupd_mono (regroup m))

/-! ## The launch's credit -/

/-- All devices together owe a cell what its payments come to. -/
theorem credit_cell (c : Dev nD) (i : Option Xfer) (n : ℕ) (h : ∑ d : Dev nD, (dues d).count (c, i) = n) :
    tallyOn (cell (c, i)) (launchCredit (Pipeline.owing O₀) 0 (cell (c, i))) = (tallyAt (cell (c, i)) () (n * pay i) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => debt_cell (dues d) (c, i)

theorem credit_intro (c : Dev nD) : (Pipeline.launchCred O₀ c : sProp 𝕄) ⊢ credit c := by
  have hR (i : Fin 4) (hi : i.val % 2 = 1) (s : Fin 6) : ∑ d : Dev nD, (dues d).count (c, some (i, s)) = 1 := by revert c i s; decide +kernel
  have hB : ∑ d : Dev nD, (dues d).count (c, none) = 3 := by revert c; decide +kernel
  unfold Pipeline.launchCred credit
  refine (bigSep_subset (Finset.subset_univ (Finset.univ.map ⟨cellSem, cellSem_injective⟩))).trans ?_
  rw [bigSep_map, bigSep_cells, bigSep_xfers]
  refine sep_le (Entails.of_eq ?_) (bigSep_le fun s => ?_)
  · show (cred (tallyOn (cell (c, none)) (launchCredit (Pipeline.owing O₀) 0 (cell (c, none)))) : sProp 𝕄) = _
    rw [credit_cell c none 3 hB]; rfl
  · iintro ⟨-, H1, -, H3⟩
    isplitl [H1]
    · iapply (Entails.of_eq (congrArg (fun t => (cred t : sProp 𝕄)) ((credit_cell c (some (1, s)) 1 (hR 1 rfl s)).trans (congrArg _ (Nat.one_mul _))))); iexact H1
    · iapply (Entails.of_eq (congrArg (fun t => (cred t : sProp 𝕄)) ((credit_cell c (some (3, s)) 1 (hR 3 rfl s)).trans (congrArg _ (Nat.one_mul _))))); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (credit_intro (F := F) c) $$ Hcr
  imodintro
  unfold start
  isplitl
  · isplitl [HG]; · iexact HG
    isplitl [Hc] <;> iassumption
  · iempintro

theorem whole_set (b : Ref sig .tc) : (Memref.whole b).view.set = Finset.univ := View.set_whole b

theorem bufs_cut (c : Dev nD) : (Pipeline.scopedRest cfg0.spec c : sProp 𝕄) ⊢ each (slotBufs (F := F) c) := by
  rw [scopedRest0_eq, ← each_eq]
  iintro ⟨H0, H1, H2, H3⟩
  ihave H0 := (codes_cut (F := F) codesOut (whole_set _) c) $$ H0
  ihave H1 := (scales_cut (F := F) scalesOut (whole_set _) c) $$ H1
  ihave H2 := (codes_cut (F := F) codesIn (whole_set _) c) $$ H2
  ihave H3 := (scales_cut (F := F) scalesIn (whole_set _) c) $$ H3
  unfold slotBufs landing
  rw [bigSep_sep', bigSep_sep', bigSep_sep']
  isplitl [H0 H1]
  · isplitl [H0] <;> iassumption
  isplitl [H2] <;> iassumption

include m in
theorem bufs_join (c : Dev nD) : each (slotBufs (F := F) c) ⊢ (Pipeline.scopedRest cfg0.spec c : sProp 𝕄) := by
  rw [scopedRest0_eq, ← each_eq]
  unfold slotBufs landing
  rw [bigSep_sep', bigSep_sep', bigSep_sep']
  iintro ⟨⟨H0, H1⟩, H2, H3⟩
  ihave H0 := (codes_join (F := F) codesOut (whole_set _) c (m _)) $$ H0
  ihave H1 := (scales_join (F := F) scalesOut (whole_set _) c (m _)) $$ H1
  ihave H2 := (codes_join (F := F) codesIn (whole_set _) c (m _)) $$ H2
  ihave H3 := (scales_join (F := F) scalesIn (whole_set _) c (m _)) $$ H3
  isplitl [H0]; · iexact H0
  isplitl [H1]; · iexact H1
  isplitl [H2] <;> iassumption

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ each (slotBufs (F := F) c)) from rfl]
  iintro ⟨Hs, -, Hr⟩
  isplitl [Hs]; · iexact Hs
  iapply (bufs_cut (F := F) c); iexact Hr

theorem zeros (c : Dev nD) : each (slotZero (F := F) c) ⊢ (bigSep Finset.univ fun k : Xfer => semVal (cell (c, some k)) 0 : sProp 𝕄) := by
  rw [bigSep_xfers, ← each_eq]
  refine bigSep_le fun s => ?_
  unfold slotZero
  iintro ⟨⟨H0, H2⟩, H1, H3⟩
  isplitl [H0]; · iexact H0
  isplitl [H1]; · iexact H1
  isplitl [H2] <;> iassumption

theorem last_exit (c : Dev nD) :
    (dats m ρ 0 c).Φ (Fin.last cfg0.N) ⊢ iprop(unscopedSems0 c ∗ Pipeline.ownSems0 xferSem c ∗ Pipeline.scopedRest cfg0.spec c) := by
  rw [show (dats m ρ 0 c).Φ (Fin.last cfg0.N) = leftover (F := F) c from rfl, ownSems0_eq, unscopedSems0_eq]
  unfold leftover
  iintro ⟨HzB, Hz, Hb⟩
  isplitl [HzB]; · iexact HzB
  isplitl [Hz]; · iapply (zeros (F := F) c); iexact Hz
  iapply (bufs_join m c); iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, the four devices run to the end on every fair schedule, and end with their
    result arrays at what the body leaves, their arguments as they were, and all semaphores at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := founded m) (G' := dealt m) (u₀ := u₀)
    (hu₀ := by
      unfold u₀
      iintro Hu
      ihave H := (ownU_pair _ _) $$ Hu
      icases H with ⟨HP, HX⟩
      imod (found m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 5) = m (win0_0.arr.view.loc (c : Thread nD τ)) := (dats (F := F) m ρ 0 c).arrAt_in (0 : Fin 5) rfl _
theorem final_w (c : Dev nD) : finalA m ρ c (1 : Fin 5) = m (win0_1.arr.view.loc (c : Thread nD τ)) := (dats (F := F) m ρ 0 c).arrAt_in (1 : Fin 5) rfl _
theorem final_sx (c : Dev nD) : finalA m ρ c (2 : Fin 5) = m (win0_2.arr.view.loc (c : Thread nD τ)) := (dats (F := F) m ρ 0 c).arrAt_in (2 : Fin 5) rfl _
theorem final_sw (c : Dev nD) : finalA m ρ c (3 : Fin 5) = m (win0_3.arr.view.loc (c : Thread nD τ)) := (dats (F := F) m ρ 0 c).arrAt_in (3 : Fin 5) rfl _

end Cert.Exchange
-- ==== Proof.Final.lean ====
/-
# The result array at the end

The result array of a device ends holding what the body left in the result's staging buffer; and what the launch says of
the arrays, said of the arguments by their names.
-/
module

public import proofs.«01_k».proof.Proof.Launch
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem flushed_out (c : Dev nD) (t : Fin cfg0.N) :
    (dats m ρ 0 c).flushed (4 : Fin 5) t = ((cfg0.win (4 : Fin 5)).blk t).view.read (Elt F) (outAt m c) := by
  obtain rfl := fin_N0 t
  have ha : (dats m ρ 0 c).after (4 : Fin 5) t0_0 = outAt m c := rfl
  have e : win0_4.index t0_0 0 * win0_4.size 0 = 0 ∧ win0_4.index t0_0 1 * win0_4.size 1 = 0 := by decide +kernel
  unfold Pipeline.Dat.flushed
  rw [ha]
  funext y
  refine congrArg (outAt m c) (funext fun a => Fin.ext ?_)
  match a with
  | ⟨0, _⟩ => show (y 0).val = win0_4.index t0_0 0 * win0_4.size 0 + 1 * (y 0).val; rw [e.1]; omega
  | ⟨1, _⟩ => show (y 1).val = win0_4.index t0_0 1 * win0_4.size 1 + 1 * (y 1).val; rw [e.2]; omega

theorem out_covered (i : S4096x512.Idx) : ∃ t : Fin cfg0.N, (cfg0.win (4 : Fin 5)).flush t = true ∧ i ∈ ((cfg0.win (4 : Fin 5)).blk t).view.set := by
  refine ⟨t0_0, flush0_4 _, ?_⟩
  show i ∈ ((View.whole main_v1).slice (win0_4.rect t0_0)).set
  rw [View.set_slice_whole, Rect.mem_set_unit]
  have e : win0_4.index t0_0 0 * win0_4.size 0 = 0 ∧ win0_4.xsize (grid0.coords t0_0) 0 = 4096
      ∧ win0_4.index t0_0 1 * win0_4.size 1 = 0 ∧ win0_4.xsize (grid0.coords t0_0) 1 = 512 := by decide +kernel
  have h0 : (i 0 : ℕ) < 4096 := (i 0).isLt
  have h1 : (i 1 : ℕ) < 512 := (i 1).isLt
  intro a
  match a with
  | ⟨0, _⟩ =>
    show win0_4.index t0_0 0 * win0_4.size 0 ≤ (i 0 : ℕ) ∧ (i 0 : ℕ) < win0_4.index t0_0 0 * win0_4.size 0 + win0_4.xsize (grid0.coords t0_0) 0
    rw [e.1, e.2.1]; omega
  | ⟨1, _⟩ =>
    show win0_4.index t0_0 1 * win0_4.size 1 ≤ (i 1 : ℕ) ∧ (i 1 : ℕ) < win0_4.index t0_0 1 * win0_4.size 1 + win0_4.xsize (grid0.coords t0_0) 1
    rw [e.2.2.1, e.2.2.2]; omega

theorem final_out (c : Dev nD) : finalA m ρ c (4 : Fin 5) = outAt m c :=
  (dats m ρ 0 c).arrAt_eq_of_cover (4 : Fin 5) (outAt m c) (fun t _ => flushed_out m ρ c t) out_covered

/-- The run, by the names of the arrays. -/
theorem run : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c (4 : Fin 5)).trans (final_out m ρ c), (h.1 c (0 : Fin 5)).trans (final_x m ρ c),
    (h.1 c (1 : Fin 5)).trans (final_w m ρ c), (h.1 c (2 : Fin 5)).trans (final_sx m ρ c), (h.1 c (3 : Fin 5)).trans (final_sw m ρ c)⟩, h.2⟩)
    (run_main m ρ)

end Cert.Exchange
-- ==== Proof.Values.lean ====
/-
# The values, element by element

Over the extended reals: the activation, the quantiser's peak, its codes and the value a code stands for, each as a function
of one element, and the kernel's bodies read at an index in those words.
-/
module

public import proofs.«01_k».proof.Proof.Contents
public import Idealize.ShloMosaic.Lib.IdealHost
public import Idealize.ShloMosaic.Lib.ValueIdx
public import Idealize.ShloMosaic.Lib.MatmulPlain
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx
open scoped BigOperators

/-! ## One element -/

/-- What a word of a float literal denotes. -/
abbrev lit (b : BitVec 32) : EReal := Ideal.ofBits .f32 b

/-- `y / (1 + exp (-y))`. -/
def silu (y : EReal) : EReal := Ideal.div y (1 + Ideal.exp (-y))

theorem exp_nonneg (x : EReal) : 0 ≤ Ideal.exp x := by
  induction x with
  | bot => exact le_refl _
  | top => exact le_top
  | coe r => exact EReal.coe_nonneg.mpr (Real.exp_pos r).le

theorem one_add_exp_ne_zero (x : EReal) : 1 + Ideal.exp x ≠ 0 :=
  (lt_of_lt_of_le zero_lt_one (le_add_of_nonneg_right (exp_nonneg x))).ne'

/-- A product with the logistic function is that quotient. -/
theorem mul_logistic (y : EReal) : y * Ideal.logistic y = silu y := Ideal.mul_one_div (one_add_exp_ne_zero _)

/-- The largest magnitude in a column of 512, and no less than a tiny constant. -/
def peak (v : Fin 512 → EReal) : EReal :=
  max ((Finset.univ : Finset (Fin 512)).fold max (lit 0xFF800000#32) fun r => max (v r) (-(v r))) (lit 0x1E3CE508#32)

/-- The code of `x` in a column of peak `p`, -/
def code (x p : EReal) : EReal :=
  min (lit 0x42FE0000#32) (max (lit 0xC2FE0000#32) (Ideal.liftRound Ideal.roundHalfEven (x * Ideal.div (lit 0x42FE0000#32) p)))
/-- and the value that code stands for. -/
def wire (x p : EReal) : EReal := code x p * (p * lit 0x3C010204#32)

/-- A row of bytes times a column of bytes. -/
def inner (x w : Fin 4096 → BitVec 8) : EReal := ∑ k : Fin 4096, (((x k).toInt : ℝ) : EReal) * (((w k).toInt : ℝ) : EReal)

/-! ## A code survives the trip as a byte -/

theorem lit_127 : lit 0x42FE0000#32 = ((127 : ℝ) : EReal) := by
  simp [lit, Ideal.ofBits, Ideal.ieee, -EReal.coe_mul]; norm_num
theorem lit_neg_127 : lit 0xC2FE0000#32 = ((-127 : ℝ) : EReal) := by
  simp [lit, Ideal.ofBits, Ideal.ieee, -EReal.coe_mul, -EReal.coe_neg]; norm_num

/-- A code is an integer between -127 and 127. -/
theorem code_int (x p : EReal) : ∃ n : ℤ, -127 ≤ n ∧ n ≤ 127 ∧ code x p = ((n : ℝ) : EReal) := by
  unfold code
  rw [lit_127, lit_neg_127]
  generalize x * Ideal.div ((127 : ℝ) : EReal) p = y
  induction y with
  | bot => exact ⟨-127, by norm_num, by norm_num, by rw [Ideal.liftRound_bot, max_bot_right, ← EReal.coe_strictMono.monotone.map_min]; norm_num⟩
  | top => exact ⟨127, by norm_num, by norm_num, by rw [Ideal.liftRound_top, max_top_right, min_top_right]; norm_num⟩
  | coe r =>
    refine ⟨min 127 (max (-127) (Ideal.roundHalfEven r)), le_min (by norm_num) (le_max_left _ _), min_le_left _ _, ?_⟩
    rw [Ideal.liftRound_coe, ← EReal.coe_strictMono.monotone.map_max, ← EReal.coe_strictMono.monotone.map_min]
    push_cast
    rfl

/-- So writing it as a byte and reading the byte back gives it again. -/
theorem byte_of_int (n : ℤ) (h₁ : -127 ≤ n) (h₂ : n ≤ 127) : (Ideal.fptosi 8 ((n : ℝ) : EReal)).toInt = n := by
  have hn : (if (0 : ℝ) ≤ (n : ℝ) then ⌊(n : ℝ)⌋ else ⌈(n : ℝ)⌉) = n := by split <;> simp
  unfold Ideal.fptosi
  rw [Ideal.toIntClamped_coe, hn, BitVec.toInt_ofInt]
  have hc : max (-((2 ^ (8 - 1) : ℕ) : ℤ)) (min (((2 ^ (8 - 1) : ℕ) : ℤ) - 1) n) = n := by norm_num; omega
  rw [hc]
  exact Int.bmod_eq_of_le (by norm_num; omega) (by norm_num; omega)

theorem code_byte (x p : EReal) : (((Ideal.fptosi 8 (code x p)).toInt : ℝ) : EReal) = code x p := by
  obtain ⟨n, h₁, h₂, hn⟩ := code_int x p
  rw [hn, byte_of_int n h₁ h₂]

/-! ## The kernel's bodies at an index -/

theorem own_eq {F : FTy → Type} [FloatOps F] (a : F .f32) (x : Vec F S512x4096 .i8) (w : Vec F S4096x512 .i8) :
    k0_pay36 a x w = truncf .bf16 (k0_pay3 a (k0_pay2 x w)) bitsLt_bf16_f32 := rfl

section Bodies
variable (a : EReal) (p : FVec Ideal S512x512 .f32) (x : Vec Ideal S512x4096 .i8) (w : Vec Ideal S4096x512 .i8)

theorem product_apply (r j : Fin 512) : k0_pay2 (F := Ideal) x w (ix2 r j) = inner (fun k => x (ix2 r k)) (fun k => w (ix2 k j)) := by
  unfold k0_pay2
  rw [shapeCast_self, shapeCast_self]
  refine (Ideal.matmul_plain_apply (M := 512) (K := 4096) (N := 512) none _ _ _ r j).trans ?_
  rw [show (constant (F := Ideal) S512x512 .f32 0x00000000#32) (ix2 r j) = (0 : EReal) from Ideal.ofBits_zero_f32, zero_add]
  rfl

theorem act_apply (i : S512x512.Idx) : k0_pay3 (F := Ideal) a p i = silu (p i * a) := mul_logistic _

theorem peak_apply (j : Fin 512) : k0_pay4 (F := Ideal) a p (ix2 (0 : Fin 1) j) = peak fun r => silu (p (ix2 r j) * a) := by
  unfold k0_pay4 peak
  refine congrArg (max · (lit 0x1E3CE508#32)) ?_
  refine (shapeCast_apply _ _ (ix2 (0 : Fin 1) j) (ix1 j) (by rw [Shape.rowMajor_val_two, Shape.rowMajor_val_one]; show j.val = 0 * 512 + j.val; omega)).trans ?_
  refine (Ideal.multiReduction_maximumf_single _ _ _ _ _ (ix1 j)).trans ?_
  refine congrArg (fun f : Fin 512 → EReal => (Finset.univ : Finset (Fin 512)).fold max (lit 0xFF800000#32) f) (funext fun r => ?_)
  have hl : (reduces_S512x512_S512.lift (ix1 j) r : S512x512.Idx) = ix2 r j := by
    funext b; apply Fin.ext
    match b with
    | ⟨0, _⟩ => rfl
    | ⟨1, _⟩ => rfl
  exact congrArg (fun y : EReal => max y (-y)) ((congrArg (k0_pay3 (F := Ideal) a p) hl).trans (act_apply a p _))

/-- One row spread over many. -/
theorem spread_apply {n : ℕ} (h : (⟨2, ![1, 512]⟩ : Shape).Broadcasts ⟨2, ![n, 512]⟩) (v : S1x512.Idx → EReal) (r : Fin n) (j : Fin 512) :
    broadcastTo ⟨2, ![n, 512]⟩ v h (ix2 r j) = v (ix2 (0 : Fin 1) j) :=
  broadcastTo_apply v h (ix2 r j) (ix2 (0 : Fin 1) j) fun a => by
    match a with
    | ⟨0, _⟩ => rfl
    | ⟨1, _⟩ => rfl

theorem codes_apply (r j : Fin 512) : k0_pay5 (F := Ideal) a p (ix3 (0 : Fin 1) r j)
    = Ideal.fptosi 8 (code (silu (p (ix2 r j) * a)) (peak fun r' => silu (p (ix2 r' j) * a))) := by
  unfold k0_pay5
  refine (shapeCast_apply _ _ (ix3 (0 : Fin 1) r j) (ix2 r j) (by
    rw [Shape.rowMajor_val_two, Shape.rowMajor_val_three]; show r.val * 512 + j.val = (0 * 512 + r.val) * 512 + j.val; omega)).trans ?_
  refine congrArg (Ideal.fptosi 8) ?_
  unfold code
  refine congrArg (fun y => min (lit 0x42FE0000#32) (max (lit 0xC2FE0000#32) (Ideal.liftRound Ideal.roundHalfEven y))) ?_
  refine congrArg₂ (· * ·) (act_apply a p _) ?_
  refine (spread_apply _ _ r j).trans ?_
  rw [divf_apply, peak_apply]
  rfl

theorem scales_apply (e : Fin 8) (j : Fin 512) : k0_pay6 (F := Ideal) a p (ix3 (0 : Fin 1) e j)
    = (peak fun r => silu (p (ix2 r j) * a)) * lit 0x3C010204#32 := by
  unfold k0_pay6
  rw [shapeCast_self]
  refine (shapeCast_apply _ _ (ix3 (0 : Fin 1) e j) (ix2 e j) (by
    rw [Shape.rowMajor_val_two, Shape.rowMajor_val_three]; show e.val * 512 + j.val = (0 * 8 + e.val) * 512 + j.val; omega)).trans ?_
  refine (spread_apply _ _ e j).trans ?_
  exact congrArg (· * lit 0x3C010204#32) (peak_apply a p j)

/-- What is made of codes and scales on the other side. -/
theorem landed_apply (r j : Fin 512) : k0_pay34 (F := Ideal) (k0_pay5 (F := Ideal) a p) (firstRow (k0_pay6 (F := Ideal) a p)) (ix2 r j)
    = wire (silu (p (ix2 r j) * a)) (peak fun r' => silu (p (ix2 r' j) * a)) := by
  have hc : (sitofp .f32 (shapeCast S512x512 (k0_pay5 (F := Ideal) a p) shapeCasts_S1x512x512_S512x512) : FVec Ideal S512x512 .f32) (ix2 r j)
      = code (silu (p (ix2 r j) * a)) (peak fun r' => silu (p (ix2 r' j) * a)) := by
    have h := shapeCast_apply (k0_pay5 (F := Ideal) a p) shapeCasts_S1x512x512_S512x512 (ix2 r j) (ix3 (0 : Fin 1) r j) (by
      rw [Shape.rowMajor_val_two, Shape.rowMajor_val_three]; show (0 * 512 + r.val) * 512 + j.val = r.val * 512 + j.val; omega)
    rw [sitofp_apply, h, codes_apply]
    exact code_byte _ _
  have hs : broadcastTo (α := EReal) S512x512 (shapeCast (α := EReal) S1x512 (firstRow (F := Ideal) (k0_pay6 (F := Ideal) a p)) shapeCasts_S1x1x512_S1x512) broadcasts_S1x512_S512x512 (ix2 r j)
      = (peak fun r' => silu (p (ix2 r' j) * a)) * lit 0x3C010204#32 := by
    refine (spread_apply _ _ r j).trans ?_
    refine (shapeCast_apply _ _ (ix2 (0 : Fin 1) j) (ix3 (0 : Fin 1) (0 : Fin 1) j) (by
      rw [Shape.rowMajor_val_two, Shape.rowMajor_val_three]; show (0 * 1 + 0) * 512 + j.val = 0 * 512 + j.val; omega)).trans ?_
    refine Eq.trans (congrArg (k0_pay6 (F := Ideal) a p) (funext fun b => ?_)) (scales_apply a p (0 : Fin 8) j)
    match b with
    | ⟨0, _⟩ => rfl
    | ⟨1, _⟩ => rfl
    | ⟨2, _⟩ => rfl
  unfold k0_pay34 wire
  rw [truncf_apply, mulf_apply, hc, hs]

theorem own_apply (i : S512x512.Idx) : k0_pay36 (F := Ideal) a x w i = silu (k0_pay2 (F := Ideal) x w i * a) := by
  exact (congrFun (own_eq (F := Ideal) a x w) i).trans (act_apply a _ i)

end Bodies

end Cert.Exchange
-- ==== Proof.RefValue.lean ====
/-
# The reference, element by element

The reference's result at a row and a column: the activation there where the row's device keeps the column, and elsewhere
the value of its code in its column of 512.
-/
module

public import proofs.«01_k».proof.Proof.Values
public import proofs.«01_k».proof.Proof.Gen.ReferenceIdeal.Run

@[expose] public section

noncomputable section

namespace Cert.RefValue

open Cert.ReferenceIdeal Cert.ReferenceIdeal.Gen
open Idealize.ShloMosaic Idealize.ShloMosaic.TcCoe Idealize.ShloMosaic.ValueIdx
open Cert.Exchange (lit silu peak code wire inner)
open scoped BigOperators

/-! ## The arrays on the way to the result -/

section Stages
variable {F : FTy → Type} [FloatOps F]

/-- The scaled product. -/
def scaled (X : IVec S4096x4096 8) (W : IVec S4096x2048 8) (u v : FVec F S1 .f32) : FVec F S4096x2048 .f32 :=
  mulf (Host.dotGeneral dot_S4096x4096_S4096x2048_S4096x2048_1_0_0_1_n_n none (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf u v)))

/-- Its activation. -/
def activated (y : FVec F S4096x2048 .f32) : FVec F S4096x2048 .f32 :=
  Host.divf y (addf (broadcastInDim S4096x2048 ![] bcast_S_S4096x2048 (constant S_ .f32 0x3F800000#32)) (Host.exp (Host.negf y)))

/-- The activation by groups of 512 rows. -/
def grouped (A : FVec F S4096x2048 .f32) : FVec F S8x512x2048 .f32 := shapeCast S8x512x2048 A shapeCasts_S4096x2048_S8x512x2048

/-- The peak of each column of each group. -/
def peaks (A : FVec F S4096x2048 .f32) : FVec F S8x1x2048 .f32 :=
  maximumf (broadcastInDim S8x1x2048 ![0, 2] bcast_S8x2048_S8x1x2048_0_2
      (Host.reduce FloatOps.maximumf (Host.absf (grouped A)) (constant S_ .f32 0xFF800000#32) reducesTo_S8x512x2048_S8x2048_d1 h_S_))
    (broadcastInDim S8x1x2048 ![] bcast_S_S8x1x2048 (constant S_ .f32 0x1E3CE508#32))

/-- The codes. -/
def coded (A : FVec F S4096x2048 .f32) : FVec F S8x512x2048 .f32 :=
  minimumf (broadcastInDim S8x512x2048 ![] bcast_S_S8x512x2048 (id (constant S_ .f32 0x42FE0000#32)))
    (maximumf (broadcastInDim S8x512x2048 ![] bcast_S_S8x512x2048 (id (constant S_ .f32 0xC2FE0000#32)))
      (Host.roundeven (mulf (grouped A) (broadcastInDim S8x512x2048 ![0, 1, 2] bcast_S8x1x2048_S8x512x2048_0_1_2
        (Host.divf (broadcastInDim S8x1x2048 ![] bcast_S_S8x1x2048 (constant S_ .f32 0x42FE0000#32)) (peaks A))))))

/-- What the codes stand for. -/
def wired (A : FVec F S4096x2048 .f32) : FVec F S4096x2048 .f32 :=
  shapeCast S4096x2048 (mulf (coded A) (broadcastInDim S8x512x2048 ![0, 1, 2] bcast_S8x1x2048_S8x512x2048_0_1_2
    (mulf (peaks A) (broadcastInDim S8x1x2048 ![] bcast_S_S8x1x2048 (constant S_ .f32 0x3C010204#32))))) shapeCasts_S8x512x2048_S4096x2048

/-- Coordinate `d` of every index divided by `n`, rounded down. -/
def owner (d : Fin 2) (n : BitVec 32) : IVec S4096x2048 32 :=
  select (andi (cmpi .ne (signi (iotaInDim S4096x2048 32 d)) (broadcastInDim S4096x2048 ![] bcast_S_S4096x2048 (signi (id (constantI S_ 32 n)))))
      (cmpi .ne (Host.remsi (iotaInDim S4096x2048 32 d) (broadcastInDim S4096x2048 ![] bcast_S_S4096x2048 (id (constantI S_ 32 n)))) (broadcastInDim S4096x2048 ![] bcast_S_S4096x2048 (constantI S_ 32 0#32))))
    (subi (Host.divsi (iotaInDim S4096x2048 32 d) (broadcastInDim S4096x2048 ![] bcast_S_S4096x2048 (id (constantI S_ 32 n)))) (broadcastInDim S4096x2048 ![] bcast_S_S4096x2048 (constantI S_ 32 1#32)))
    (Host.divsi (iotaInDim S4096x2048 32 d) (broadcastInDim S4096x2048 ![] bcast_S_S4096x2048 (id (constantI S_ 32 n))))

/-- The whole result, of an activation. -/
def result (A : FVec F S4096x2048 .f32) : FVec F S4096x2048 .bf16 :=
  truncf .bf16 (select (cmpi .eq (owner 0 1024#32) (owner 1 512#32)) A (wired A)) bitsLt_bf16_f32

theorem res_eq (m : (ℓ : Loc nD τ sig) → Buf (Elt F) ℓ) (c : Dev nD) :
    Value.res_main_v37 m c = result (activated (scaled (m ((c : Thread nD τ).loc main_arg0)) (m ((c : Thread nD τ).loc main_arg1))
      (m ((c : Thread nD τ).loc main_arg2)) (m ((c : Thread nD τ).loc main_arg3)))) := rfl

end Stages

/-! ## Whole numbers -/

/-- A word divided by another, rounded down, from the quotient and the remainder toward zero. -/
def floorDiv (i n : BitVec 32) : BitVec 32 :=
  Scalar.select (IntOp.andi (IntOp.cmpi .ne (if i = 0 then 0 else if i.msb then -1 else 1) (if n = 0 then (0 : BitVec 32) else if n.msb then -1 else 1))
      (IntOp.cmpi .ne (IntOp.remsi .host i n) 0#32))
    (IntOp.subi (IntOp.divsi .host i n) 1#32) (IntOp.divsi .host i n)

theorem owner_apply (d : Fin 2) (n : BitVec 32) (i : S4096x2048.Idx) : owner d n i = floorDiv (BitVec.ofNat 32 (i d).val) n := rfl

theorem floorDiv_rows : ∀ i : Fin 4096, floorDiv (BitVec.ofNat 32 i.val) 1024#32 = BitVec.ofNat 32 (i.val / 1024) := by decide +kernel
theorem floorDiv_cols : ∀ j : Fin 2048, floorDiv (BitVec.ofNat 32 j.val) 512#32 = BitVec.ofNat 32 (j.val / 512) := by decide +kernel

theorem same_owner (i : Fin 4096) (j : Fin 2048) :
    IntOp.cmpi .eq (owner 0 1024#32 (ix2 i j)) (owner 1 512#32 (ix2 i j)) = BitVec.ofBool (decide (i.val / 1024 = j.val / 512)) := by
  rw [owner_apply, owner_apply]
  refine (congrArg₂ (IntOp.cmpi .eq) (floorDiv_rows i) (floorDiv_cols j)).trans ?_
  have hi : i.val / 1024 < 4 := by omega
  have hj : j.val / 512 < 4 := by omega
  generalize i.val / 1024 = a at hi ⊢
  generalize j.val / 512 = b at hj ⊢
  interval_cases a <;> interval_cases b <;> rfl

/-! ## The stages at an index -/

theorem scaled_apply (X : IVec S4096x4096 8) (W : IVec S4096x2048 8) (u v : FVec Ideal S1 .f32) (i : Fin 4096) (j : Fin 2048) :
    scaled (F := Ideal) X W u v (ix2 i j) = inner (fun k => X (ix2 i k)) (fun k => W (ix2 k j)) * (u (ix1 0) * v (ix1 0)) := by
  have hd : Host.dotGeneral (F := Ideal) (φ₁ := .f32) (φ₂ := .f32) dot_S4096x4096_S4096x2048_S4096x2048_1_0_0_1_n_n none
      (sitofp .f32 (extsi 32 X natLt_8_32)) (sitofp .f32 (extsi 32 W natLt_8_32)) (ix2 i j) = inner (fun k => X (ix2 i k)) (fun k => W (ix2 k j)) := by
    refine (Ideal.matmul_plain_apply (M := 4096) (K := 4096) (N := 2048) (φ₁ := .f32) (φ₂ := .f32) none _ _ (fun _ => 0) i j).trans ?_
    rw [zero_add]
    refine Finset.sum_congr rfl fun k _ => ?_
    rw [sitofp_apply, sitofp_apply]
    show (((BitVec.signExtend 32 (X (ix2 i k))).toInt : ℝ) : EReal) * (((BitVec.signExtend 32 (W (ix2 k j))).toInt : ℝ) : EReal) = _
    rw [BitVec.toInt_signExtend_of_le (by decide), BitVec.toInt_signExtend_of_le (by decide)]
  have hs : broadcastInDim (α := EReal) S4096x2048 ![0, 1] bcast_S1x1_S4096x2048_0_1 (broadcastInDim S1x1 ![1] bcast_S1_S1x1_1 (mulf u v)) (ix2 i j)
      = u (ix1 0) * v (ix1 0) := by
    refine (broadcastInDim_apply _ _ _ _ (ix2 (0 : Fin 1) (0 : Fin 1)) fun a => ?_).trans ?_
    · match a with
      | ⟨0, _⟩ => rfl
      | ⟨1, _⟩ => rfl
    · refine (broadcastInDim_apply _ _ _ _ (ix1 (0 : Fin 1)) fun a => ?_).trans rfl
      match a with
      | ⟨0, _⟩ => rfl
  unfold scaled
  rw [mulf_apply, hd, hs]

theorem activated_apply (y : FVec Ideal S4096x2048 .f32) (i : S4096x2048.Idx) : activated (F := Ideal) y i = silu (y i) := by
  have h1 : broadcastInDim (α := EReal) S4096x2048 ![] bcast_S_S4096x2048 (constant (F := Ideal) S_ .f32 0x3F800000#32) i = 1 := Ideal.ofBits_one_f32
  unfold activated silu
  rw [hostDivf_apply, addf_apply, h1]
  rfl

variable (A : FVec Ideal S4096x2048 .f32)

/-- Row `r` of group `g`. -/
abbrev rowOf (g : Fin 8) (r : Fin 512) : Fin 4096 := ⟨512 * g.val + r.val, by omega⟩

theorem grouped_apply (g : Fin 8) (r : Fin 512) (j : Fin 2048) : grouped (F := Ideal) A (ix3 g r j) = A (ix2 (rowOf g r) j) :=
  shapeCast_apply _ _ _ _ (by
    rw [Shape.rowMajor_val_two, Shape.rowMajor_val_three]
    show (512 * g.val + r.val) * 2048 + j.val = (g.val * 512 + r.val) * 2048 + j.val
    omega)

/-- The peak of column `j` of group `g`. -/
def peakOf (g : Fin 8) (j : Fin 2048) : EReal := peak fun r => A (ix2 (rowOf g r) j)

theorem reduces_groups : S8x512x2048.Reduces [1] S8x2048 := by decide

theorem peaks_apply (g : Fin 8) (j : Fin 2048) : peaks (F := Ideal) A (ix3 g (0 : Fin 1) j) = peakOf A g j := by
  have hm : broadcastInDim (α := EReal) S8x1x2048 ![0, 2] bcast_S8x2048_S8x1x2048_0_2
      (Host.reduce (FloatOps.maximumf (F := Ideal) (φ := .f32)) (Host.absf (grouped (F := Ideal) A)) (constant (F := Ideal) S_ .f32 0xFF800000#32) reducesTo_S8x512x2048_S8x2048_d1 h_S_)
      (ix3 g (0 : Fin 1) j)
      = (Finset.univ : Finset (Fin 512)).fold max (lit 0xFF800000#32) fun r => max (A (ix2 (rowOf g r) j)) (-(A (ix2 (rowOf g r) j))) := by
    refine (broadcastInDim_apply _ _ _ _ (ix2 g j) fun a => ?_).trans ?_
    · match a with
      | ⟨0, _⟩ => rfl
      | ⟨1, _⟩ => rfl
    · refine (Host.reduce_eq_fold_single _ _ _ _ reduces_groups _ (ix2 g j)).trans ?_
      refine congrArg (fun f : Fin 512 → EReal => (Finset.univ : Finset (Fin 512)).fold max (lit 0xFF800000#32) f) (funext fun r => ?_)
      have hl : (reduces_groups.lift (ix2 g j) r : S8x512x2048.Idx) = ix3 g r j := by
        funext b; apply Fin.ext
        match b with
        | ⟨0, _⟩ => rfl
        | ⟨1, _⟩ => rfl
        | ⟨2, _⟩ => rfl
      exact congrArg (fun y : EReal => max y (-y)) ((congrArg (grouped (F := Ideal) A) hl).trans (grouped_apply A g r j))
  have hc : broadcastInDim (α := EReal) S8x1x2048 ![] bcast_S_S8x1x2048 (constant (F := Ideal) S_ .f32 0x1E3CE508#32) (ix3 g (0 : Fin 1) j) = lit 0x1E3CE508#32 := rfl
  unfold peaks peakOf peak
  rw [maximumf_apply, hm, hc]

/-- One row of a group spread over the group. -/
theorem spread_group (v : S8x1x2048.Idx → EReal) (g : Fin 8) (r : Fin 512) (j : Fin 2048) :
    broadcastInDim S8x512x2048 ![0, 1, 2] bcast_S8x1x2048_S8x512x2048_0_1_2 v (ix3 g r j) = v (ix3 g (0 : Fin 1) j) :=
  broadcastInDim_apply _ _ _ _ _ fun a => by
    match a with
    | ⟨0, _⟩ => rfl
    | ⟨1, _⟩ => rfl
    | ⟨2, _⟩ => rfl

theorem coded_apply (g : Fin 8) (r : Fin 512) (j : Fin 2048) :
    coded (F := Ideal) A (ix3 g r j) = code (A (ix2 (rowOf g r) j)) (peakOf A g j) := by
  have hq : broadcastInDim (α := EReal) S8x512x2048 ![0, 1, 2] bcast_S8x1x2048_S8x512x2048_0_1_2
      (Host.divf (F := Ideal) (φ := .f32) (broadcastInDim S8x1x2048 ![] bcast_S_S8x1x2048 (constant S_ .f32 0x42FE0000#32)) (peaks A)) (ix3 g r j)
      = Ideal.div (lit 0x42FE0000#32) (peakOf A g j) := by
    rw [spread_group, hostDivf_apply, peaks_apply]
    rfl
  have hm : mulf (F := Ideal) (φ := .f32) (grouped A) (broadcastInDim (α := EReal) S8x512x2048 ![0, 1, 2] bcast_S8x1x2048_S8x512x2048_0_1_2
      (Host.divf (F := Ideal) (φ := .f32) (broadcastInDim S8x1x2048 ![] bcast_S_S8x1x2048 (constant S_ .f32 0x42FE0000#32)) (peaks A))) (ix3 g r j)
      = A (ix2 (rowOf g r) j) * Ideal.div (lit 0x42FE0000#32) (peakOf A g j) := by
    rw [mulf_apply, grouped_apply, hq]
  unfold coded code
  rw [minimumf_apply, maximumf_apply, ← hm]
  rfl

theorem wired_apply (g : Fin 8) (r : Fin 512) (j : Fin 2048) :
    wired (F := Ideal) A (ix2 (rowOf g r) j) = wire (A (ix2 (rowOf g r) j)) (peakOf A g j) := by
  have hs : broadcastInDim (α := EReal) S8x512x2048 ![0, 1, 2] bcast_S8x1x2048_S8x512x2048_0_1_2
      (mulf (F := Ideal) (φ := .f32) (peaks A) (broadcastInDim S8x1x2048 ![] bcast_S_S8x1x2048 (constant S_ .f32 0x3C010204#32))) (ix3 g r j)
      = peakOf A g j * lit 0x3C010204#32 := by
    rw [spread_group, mulf_apply, peaks_apply]
    rfl
  unfold wired wire
  refine (shapeCast_apply _ _ _ (ix3 g r j) (by
    rw [Shape.rowMajor_val_two, Shape.rowMajor_val_three]
    show (g.val * 512 + r.val) * 2048 + j.val = (512 * g.val + r.val) * 2048 + j.val
    omega)).trans ?_
  rw [mulf_apply, coded_apply, hs]

/-- The result at row `r` of group `g` and column `j`. -/
theorem result_apply (g : Fin 8) (r : Fin 512) (j : Fin 2048) :
    result (F := Ideal) A (ix2 (rowOf g r) j)
      = if g.val / 2 = j.val / 512 then A (ix2 (rowOf g r) j) else wire (A (ix2 (rowOf g r) j)) (peakOf A g j) := by
  have ho := same_owner (rowOf g r) j
  have hg : (rowOf g r).val / 1024 = g.val / 2 := by show (512 * g.val + r.val) / 1024 = g.val / 2; omega
  rw [hg] at ho
  unfold result
  rw [truncf_apply, select_apply, wired_apply, show cmpi .eq (owner 0 1024#32) (owner 1 512#32) (ix2 (rowOf g r) j) = _ from ho]
  by_cases h : g.val / 2 = j.val / 512
  · rw [if_pos h, decide_eq_true h]; rfl
  · rw [if_neg h, decide_eq_false h]; rfl

end Cert.RefValue
-- ==== Proof.Bridge.lean ====
/-
# The kernel's result is the reference's

Device `c`'s result, element by element, is its block of columns of the reference's result on the whole arrays.
-/
module

public import proofs.«01_k».proof.Proof.Values
public import proofs.«01_k».proof.Proof.RefValue
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open Cert.RefValue (rowOf peakOf result_apply activated activated_apply scaled scaled_apply)

/-! ## What the kernel loads -/

section Loads
variable {F : FTy → Type} [FloatOps F]
variable (m : (ℓ : Loc nD τ sig) → Buf (Elt F) ℓ)

theorem xIn_eq (c : Dev nD) : xIn m c = m ((c : Thread nD τ).loc main_arg0) := by
  have e : win0_0.index (0 : Fin 1) 0 * win0_0.size 0 = 0 ∧ win0_0.index (0 : Fin 1) 1 * win0_0.size 1 = 0 := by decide +kernel
  funext y
  refine congrArg (m ((c : Thread nD τ).loc main_arg0)) (funext fun a => Fin.ext ?_)
  match a with
  | ⟨0, _⟩ => show win0_0.index (0 : Fin 1) 0 * win0_0.size 0 + 1 * (y 0).val = (y 0).val; rw [e.1]; omega
  | ⟨1, _⟩ => show win0_0.index (0 : Fin 1) 1 * win0_0.size 1 + 1 * (y 1).val = (y 1).val; rw [e.2]; omega

theorem wIn_eq (c : Dev nD) : wIn m c = m ((c : Thread nD τ).loc main_arg1) := by
  have e : win0_1.index (0 : Fin 1) 0 * win0_1.size 0 = 0 ∧ win0_1.index (0 : Fin 1) 1 * win0_1.size 1 = 0 := by decide +kernel
  funext y
  refine congrArg (m ((c : Thread nD τ).loc main_arg1)) (funext fun a => Fin.ext ?_)
  match a with
  | ⟨0, _⟩ => show win0_1.index (0 : Fin 1) 0 * win0_1.size 0 + 1 * (y 0).val = (y 0).val; rw [e.1]; omega
  | ⟨1, _⟩ => show win0_1.index (0 : Fin 1) 1 * win0_1.size 1 + 1 * (y 1).val = (y 1).val; rw [e.2]; omega

theorem xRows_apply (c : Dev nD) (h : Fin 2) (r : Fin 512) (k : Fin 4096) :
    xRows m c h (ix2 r k) = m ((c : Thread nD τ).loc main_arg0) (ix2 (⟨512 * h.val + r.val, by omega⟩ : Fin 1024) k) := by
  unfold xRows
  rw [xIn_eq]
  refine congrArg (m ((c : Thread nD τ).loc main_arg0)) (funext fun a => Fin.ext ?_)
  match a with
  | ⟨0, _⟩ => show 512 * h.val + 1 * r.val = 512 * h.val + r.val; omega
  | ⟨1, _⟩ => show 0 + 1 * k.val = k.val; omega

theorem wCols_apply (c e : Dev nD) (k : Fin 4096) (j : Fin 512) :
    wCols m c e (ix2 k j) = m ((c : Thread nD τ).loc main_arg1) (ix2 k (⟨512 * e.val + j.val, by have : e.val < 4 := e.isLt; omega⟩ : Fin 2048)) := by
  unfold wCols
  rw [wIn_eq]
  refine congrArg (m ((c : Thread nD τ).loc main_arg1)) (funext fun a => Fin.ext ?_)
  match a with
  | ⟨0, _⟩ => show 0 + 1 * k.val = k.val; omega
  | ⟨1, _⟩ => show 512 * e.val + 1 * j.val = 512 * e.val + j.val; omega

theorem only_index (i j : S1.Idx) : i = j := funext fun a => by
  match a with
  | ⟨0, _⟩ => exact Fin.ext ((Nat.lt_one_iff.mp (i 0).isLt).trans (Nat.lt_one_iff.mp (j 0).isLt).symm)

theorem sxIn_apply (c : Dev nD) (i : S1.Idx) : sxIn m c i = m ((c : Thread nD τ).loc main_arg2) (ix1 (0 : Fin 1)) :=
  congrArg (m ((c : Thread nD τ).loc main_arg2)) (only_index ((win0_2.blk (0 : Fin 1)).view.emb i) (ix1 (0 : Fin 1)))
theorem swIn_apply (c : Dev nD) (i : S1.Idx) : swIn m c i = m ((c : Thread nD τ).loc main_arg3) (ix1 (0 : Fin 1)) :=
  congrArg (m ((c : Thread nD τ).loc main_arg3)) (only_index ((win0_3.blk (0 : Fin 1)).view.emb i) (ix1 (0 : Fin 1)))

theorem scale_eq (c : Dev nD) : scale m c
    = k0_pay1 (m ((c : Thread nD τ).loc main_arg2) (ix1 (0 : Fin 1))) (m ((c : Thread nD τ).loc main_arg3) (ix1 (0 : Fin 1))) :=
  congrArg₂ k0_pay1 (sxIn_apply m c (oneRect.emb theOne)) (swIn_apply m c (oneRect.emb theOne))

end Loads

/-! ## Against the whole arrays -/

/-- Where the block that fills slot `slotOf c b` comes from. -/
theorem slotOf_origin (c : Dev nD) (b : Fin 8) (hb : b.val / 2 ≠ c.val) : (origin (slotOf c b) c).val = b.val / 2 ∧ (half (slotOf c b)).val = b.val % 2 := by
  revert c b; decide

section Whole
variable (m : (ℓ : Loc nD τ sig) → Buf (Elt Ideal) ℓ)
variable (X : IVec Cert.ReferenceIdeal.S4096x4096 8) (W : IVec Cert.ReferenceIdeal.S4096x2048 8) (u v : FVec Ideal Cert.ReferenceIdeal.S1 .f32)

/-- The devices' arguments are the whole arrays' blocks. -/
def Holds : Prop := ∀ c : Dev nD,
  m ((c : Thread nD τ).loc main_arg0) = Layout.block ⟨2, ![1024, 4096]⟩ ⟨2, ![4096, 4096]⟩ 0 4 c X
  ∧ m ((c : Thread nD τ).loc main_arg1) = W ∧ m ((c : Thread nD τ).loc main_arg2) = u ∧ m ((c : Thread nD τ).loc main_arg3) = v

/-- Column `j` of those that device `c` keeps. -/
abbrev colOf (c : Dev nD) (j : Fin 512) : Fin 2048 := ⟨512 * c.val + j.val, by have : c.val < 4 := c.isLt; omega⟩

/-- The reference's activation. -/
abbrev wholeAct : FVec Ideal Cert.ReferenceIdeal.S4096x2048 .f32 := activated (scaled X W u v)

variable (hm : Holds m X W u v)
include hm

theorem act_block (o c : Dev nD) (h : Fin 2) (g : Fin 8) (hg : g.val = 2 * o.val + h.val) (r j : Fin 512) :
    silu (k0_pay2 (F := Ideal) (xRows m o h) (wCols m o c) (ix2 r j) * scale m o) = wholeAct X W u v (ix2 (rowOf g r) (colOf c j)) := by
  obtain ⟨h0, h1, h2, h3⟩ := hm o
  have hx : (fun k => xRows m o h (ix2 r k)) = fun k => X (ix2 (rowOf g r) k) := funext fun k => by
    rw [xRows_apply, h0]
    refine congrArg X (funext fun a => Fin.ext ?_)
    match a with
    | ⟨0, _⟩ => show o.val * 1024 + (512 * h.val + r.val) = 512 * g.val + r.val; omega
    | ⟨1, _⟩ => rfl
  have hw : (fun k => wCols m o c (ix2 k j)) = fun k => W (ix2 k (colOf c j)) := funext fun k => by
    rw [wCols_apply, h1]
  have hs : scale m o = u (ix1 0) * v (ix1 0) := by
    rw [scale_eq, h2, h3]; rfl
  unfold wholeAct
  rw [activated_apply, scaled_apply, product_apply, hx, hw, hs]

theorem received_apply (c : Dev nD) (s : Fin 6) (g : Fin 8) (hg : g.val = 2 * (origin s c).val + (half s).val) (r j : Fin 512) :
    received m c s (ix2 r j) = wire (wholeAct X W u v (ix2 (rowOf g r) (colOf c j))) (peakOf (wholeAct X W u v) g (colOf c j)) := by
  have hr := fun r' => act_block m X W u v hm (origin s c) c (half s) g hg r' j
  unfold received sentCodes sentScales sentAct
  rw [target_origin]
  refine (landed_apply _ _ r j).trans ?_
  unfold peakOf
  rw [hr r, funext hr]

/-- Device `c`'s result at a row and a column, -/
theorem outAt_apply (c : Dev nD) (p : Fin 4096) (j : Fin 512) : outAt m c (ix2 p j)
    = Layout.block ⟨2, ![4096, 512]⟩ ⟨2, ![4096, 2048]⟩ 1 4 c (Cert.RefValue.result (F := Ideal) (wholeAct X W u v)) (by decide) (ix2 p j) := by
  have hp : p.val < 4096 := p.isLt
  have hc : c.val < 4 := c.isLt
  have hj : j.val < 512 := j.isLt
  let g : Fin 8 := ⟨p.val / 512, by omega⟩
  let r : Fin 512 := ⟨p.val % 512, by omega⟩
  have hb : blockOf (ix2 p j) = g := rfl
  have hpl : placeIn (ix2 p j) = ix2 r j := funext fun a => by
    match a with
    | ⟨0, _⟩ => rfl
    | ⟨1, _⟩ => rfl
  have hidx : Layout.block ⟨2, ![4096, 512]⟩ ⟨2, ![4096, 2048]⟩ 1 4 c (Cert.RefValue.result (F := Ideal) (wholeAct X W u v)) (by decide) (ix2 p j)
      = Cert.RefValue.result (F := Ideal) (wholeAct X W u v) (ix2 (rowOf g r) (colOf c j)) := by
    refine congrArg (Cert.RefValue.result (F := Ideal) (wholeAct X W u v)) (funext fun a => Fin.ext ?_)
    match a with
    | ⟨0, _⟩ => show p.val = 512 * (p.val / 512) + p.val % 512; omega
    | ⟨1, _⟩ => show c.val * 512 + j.val = 512 * c.val + j.val; omega
  have hcol : (colOf c j).val / 512 = c.val := by show (512 * c.val + j.val) / 512 = c.val; omega
  rw [hidx, result_apply, hcol]
  show outBlock m c (blockOf (ix2 p j)) (placeIn (ix2 p j)) = _
  rw [hb, hpl]
  by_cases h : g.val / 2 = c.val
  · rw [if_pos h, outBlock_kept m c ⟨g.val % 2, Nat.mod_lt _ (by decide)⟩ g (by show g.val = 2 * c.val + g.val % 2; omega)]
    exact (own_apply _ _ _ _).trans (act_block m X W u v hm c c _ g (by show g.val = 2 * c.val + g.val % 2; omega) r j)
  · obtain ⟨h₁, h₂⟩ := slotOf_origin c g h
    rw [if_neg h, outBlock, if_neg h]
    exact received_apply m X W u v hm c (slotOf c g) g (by rw [h₁, h₂]; omega) r j

/-- and the whole of it. -/
theorem outAt_eq (c : Dev nD) : outAt m c
    = Layout.block ⟨2, ![4096, 512]⟩ ⟨2, ![4096, 2048]⟩ 1 4 c (Cert.RefValue.result (F := Ideal) (wholeAct X W u v)) :=
  funext fun i => (congrArg (outAt m c) (eq_ix2 i)).trans ((outAt_apply m X W u v hm c (i 0) (i 1)).trans (congrArg _ (eq_ix2 i).symm))

end Whole

end Cert.Exchange
-- ==== Proof.Near.lean ====
/-
# How far the quantised activation is from the exact one

The activation of reference.py clips before it takes the exponential, and has no quantiser. Here is, for one column of 512,
how far the value of a code can be from that activation: half a step, a little more than 1/254 of the column's peak, and
what the clip makes.
-/
module

public import proofs.«01_k».proof.Proof.Values
public import Mathlib.Analysis.Complex.Exponential

@[expose] public section

noncomputable section

namespace Cert.Near

open Idealize.ShloMosaic
open Cert.Exchange (lit silu peak code wire inner)

/-! ## The reals -/

/-- `y` between -60 and 60. -/
def clip (y : ℝ) : ℝ := min 60 (max (-60) y)

theorem clip_low {y : ℝ} (h : y ≤ -60) : clip y = -60 := by unfold clip; rw [max_eq_left h]; norm_num
theorem clip_high {y : ℝ} (h : 60 ≤ y) : clip y = 60 := by unfold clip; rw [max_eq_right (by linarith), min_eq_left h]
theorem clip_mid {y : ℝ} (h₁ : -60 ≤ y) (h₂ : y ≤ 60) : clip y = y := by unfold clip; rw [max_eq_right h₁, min_eq_right h₂]

/-- The logistic function with the clip and without differ by at most `exp (-60)`, -/
theorem logistic_clip (y : ℝ) : |(1 + Real.exp (-y))⁻¹ - (1 + Real.exp (-clip y))⁻¹| ≤ Real.exp (-60) := by
  have hk : 0 < Real.exp (-60) := Real.exp_pos _
  rcases le_total y (-60) with h | h
  · have hs : ∀ a : ℝ, 60 ≤ a → 0 ≤ (1 + Real.exp a)⁻¹ ∧ (1 + Real.exp a)⁻¹ ≤ Real.exp (-60) := fun a ha => by
      have h₁ : Real.exp 60 ≤ Real.exp a := Real.exp_le_exp.mpr ha
      refine ⟨by positivity, ?_⟩
      rw [Real.exp_neg]
      exact inv_anti₀ (Real.exp_pos _) (by linarith)
    rw [clip_low h]
    obtain ⟨h₁, h₂⟩ := hs (-y) (by linarith)
    obtain ⟨h₃, h₄⟩ := hs (-(-60)) (by norm_num)
    rw [abs_le]; constructor <;> linarith
  · rcases le_total y 60 with h' | h'
    · rw [clip_mid h h', sub_self, abs_zero]; exact hk.le
    · have hs : ∀ a : ℝ, 60 ≤ a → 1 - Real.exp (-60) ≤ (1 + Real.exp (-a))⁻¹ ∧ (1 + Real.exp (-a))⁻¹ ≤ 1 := fun a ha => by
        have h₁ : Real.exp (-a) ≤ Real.exp (-60) := Real.exp_le_exp.mpr (by linarith)
        have h₂ : 0 < Real.exp (-a) := Real.exp_pos _
        refine ⟨?_, inv_le_one_of_one_le₀ (by linarith)⟩
        rw [inv_eq_one_div, le_div_iff₀ (by positivity)]
        nlinarith
      rw [clip_high h']
      obtain ⟨h₁, h₂⟩ := hs y h'
      obtain ⟨h₃, h₄⟩ := hs 60 le_rfl
      rw [abs_le]; constructor <;> linarith

/-- and the one without is at most so much larger. -/
theorem logistic_le (y : ℝ) : (1 + Real.exp (-y))⁻¹ ≤ (1 + Real.exp (-clip y))⁻¹ * (1 + Real.exp (-60)) := by
  have hk : 0 < Real.exp (-60) := Real.exp_pos _
  have hc : 0 < (1 + Real.exp (-clip y))⁻¹ := by positivity
  rcases le_total y (-60) with h | h
  · rw [clip_low h] at hc ⊢
    have h₁ : Real.exp (-(-60)) ≤ Real.exp (-y) := Real.exp_le_exp.mpr (by linarith)
    have h₂ : (1 + Real.exp (-y))⁻¹ ≤ (1 + Real.exp (-(-60)))⁻¹ := inv_anti₀ (by positivity) (by linarith)
    nlinarith
  · rcases le_total y 60 with h' | h'
    · rw [clip_mid h h'] at hc ⊢; nlinarith
    · rw [clip_high h', inv_mul_cancel₀ (by positivity)]
      exact inv_le_one_of_one_le₀ (by linarith [Real.exp_pos (-y)])

/-- The activation, -/
def act (y : ℝ) : ℝ := y / (1 + Real.exp (-y))
/-- and reference.py's. -/
def exact (y : ℝ) : ℝ := y / (1 + Real.exp (-clip y))

theorem act_near (y : ℝ) : |act y - exact y| ≤ |y| * Real.exp (-60) := by
  unfold act exact
  rw [div_eq_mul_inv, div_eq_mul_inv, ← mul_sub, abs_mul]
  exact mul_le_mul_of_nonneg_left (logistic_clip y) (abs_nonneg _)

theorem act_le (y : ℝ) : |act y| ≤ |exact y| * (1 + Real.exp (-60)) := by
  unfold act exact
  rw [div_eq_mul_inv, div_eq_mul_inv, abs_mul, abs_mul, abs_of_pos (by positivity : 0 < (1 + Real.exp (-y))⁻¹),
    abs_of_pos (by positivity : 0 < (1 + Real.exp (-clip y))⁻¹), mul_assoc]
  exact mul_le_mul_of_nonneg_left (logistic_le y) (abs_nonneg _)

theorem exp_neg_60 : Real.exp (-60) ≤ 12980742 / 2 ^ 110 := by
  rw [Real.exp_neg, ← mul_one (60 : ℝ), show (60 : ℝ) * 1 = ((60 : ℕ) : ℝ) * 1 by norm_num, Real.exp_nat_mul]
  have h₁ : (2.718 : ℝ) ≤ Real.exp 1 := le_trans (by norm_num [Finset.sum_range_succ, Nat.factorial]) (Real.sum_le_exp_of_nonneg zero_le_one 8)
  have h : (2.718 : ℝ) ^ 60 ≤ Real.exp 1 ^ 60 := pow_le_pow_left₀ (by norm_num) h₁ 60
  refine (inv_anti₀ (by positivity) h).trans ?_
  norm_num

/-- Rounding moves a number by at most one half. -/
theorem round_near (t : ℝ) : |(Ideal.roundHalfEven t : ℝ) - t| ≤ 1 / 2 := by
  have h₁ := Int.floor_le t
  have h₂ := Int.lt_floor_add_one t
  unfold Ideal.roundHalfEven
  simp only
  rw [abs_le]
  split_ifs <;> push_cast <;> constructor <;> linarith

/-- The scale's literal, about 1/127. -/
abbrev unit : ℝ := 8454660 / 2 ^ 30

/-- The code of `x` in a column of peak `p`, -/
def codeR (x p : ℝ) : ℝ := min 127 (max (-127) (Ideal.roundHalfEven (x * (127 * p⁻¹)) : ℝ))

/-- and how far its value is from `x`. -/
theorem wire_near (x p : ℝ) (hp : 0 < p) (hx : |x| ≤ p) : |codeR x p * (p * unit) - x| ≤ 0.003938 * p := by
  set t := x * (127 * p⁻¹) with ht
  have hxt : x = t * p / 127 := by rw [ht]; field_simp
  have hb : |t| ≤ 127 := by
    rw [ht, abs_mul, abs_of_pos (by positivity : 0 < 127 * p⁻¹)]
    calc |x| * (127 * p⁻¹) ≤ p * (127 * p⁻¹) := mul_le_mul_of_nonneg_right hx (by positivity)
      _ = 127 := by field_simp
  have hr := abs_le.mp (round_near t)
  have ht' := abs_le.mp hb
  have hc : |codeR x p - t| ≤ 1 / 2 := by
    unfold codeR
    rw [← ht, abs_le]
    constructor
    · have : t - 1 / 2 ≤ min 127 (max (-127) (Ideal.roundHalfEven t : ℝ)) := le_min (by linarith) (le_max_of_le_right (by linarith))
      linarith
    · have : min 127 (max (-127) (Ideal.roundHalfEven t : ℝ)) ≤ t + 1 / 2 := min_le_of_right_le (max_le (by linarith) (by linarith))
      linarith
  have he : codeR x p * (p * unit) - x = ((codeR x p - t) * unit + t * (unit - 1 / 127)) * p := by rw [hxt]; ring
  rw [he, abs_mul, abs_of_pos hp]
  refine mul_le_mul_of_nonneg_right ?_ hp.le
  refine (abs_add_le _ _).trans ?_
  rw [abs_mul, abs_mul]
  have hu : |unit| ≤ 0.00787402 := by rw [abs_le]; constructor <;> norm_num
  have hv : |unit - 1 / 127| ≤ 0.000000001 := by rw [abs_le]; constructor <;> norm_num
  have h₁ := mul_le_mul hc hu (abs_nonneg _) (by norm_num)
  have h₂ := mul_le_mul hb hv (abs_nonneg _) (by norm_num)
  norm_num at h₁ h₂ ⊢
  linarith

/-! ## The extended reals -/

theorem lit_unit : lit 0x3C010204#32 = ((unit : ℝ) : EReal) := by
  simp [lit, Ideal.ofBits, Ideal.ieee, -EReal.coe_mul]; norm_num
theorem lit_60 : lit 0x42700000#32 = ((60 : ℝ) : EReal) := by
  simp [lit, Ideal.ofBits, Ideal.ieee, -EReal.coe_mul]; norm_num
theorem lit_neg_60 : lit 0xC2700000#32 = ((-60 : ℝ) : EReal) := by
  simp [lit, Ideal.ofBits, Ideal.ieee, -EReal.coe_mul, -EReal.coe_neg]; norm_num
theorem lit_least : lit 0x1E3CE508#32 = ((12379400 / 2 ^ 90 : ℝ) : EReal) := by
  simp [lit, Ideal.ofBits, Ideal.ieee, -EReal.coe_mul]; norm_num
theorem lit_step : lit 0x3B811B1E#32 = ((8461086 / 2 ^ 31 : ℝ) : EReal) := by
  simp [lit, Ideal.ofBits, Ideal.ieee, -EReal.coe_mul]; norm_num
theorem lit_tiny : lit 0x14461206#32 = ((12980742 / 2 ^ 110 : ℝ) : EReal) := by
  simp [lit, Ideal.ofBits, Ideal.ieee, -EReal.coe_mul]; norm_num
theorem lit_bot : lit 0xFF800000#32 = ⊥ := by
  simp [lit, Ideal.ofBits, Ideal.ieee]

/-- reference.py's activation. -/
def exactAt (y : EReal) : EReal := Ideal.div y (1 + Ideal.exp (-(min (lit 0x42700000#32) (max (lit 0xC2700000#32) y))))

theorem quot_coe (y e : ℝ) : Ideal.div (y : EReal) (1 + Ideal.exp (e : EReal)) = ((y / (1 + Real.exp e) : ℝ) : EReal) := by
  have h : (1 + Real.exp e) ≠ 0 := by positivity
  rw [Ideal.exp_coe, ← EReal.coe_one, ← EReal.coe_add, Ideal.div_coe h, ← EReal.coe_mul, mul_one_div]

theorem silu_coe (y : ℝ) : silu (y : EReal) = ((act y : ℝ) : EReal) := by
  unfold silu; rw [← EReal.coe_neg, quot_coe]; rfl

theorem exactAt_coe (y : ℝ) : exactAt (y : EReal) = ((exact y : ℝ) : EReal) := by
  unfold exactAt
  rw [lit_60, lit_neg_60, ← EReal.coe_strictMono.monotone.map_max, ← EReal.coe_strictMono.monotone.map_min, ← EReal.coe_neg, quot_coe]
  rfl

theorem wire_coe (x p : ℝ) (hp : 0 < p) : wire (x : EReal) (p : EReal) = ((codeR x p * (p * unit) : ℝ) : EReal) := by
  have hc : code (x : EReal) (p : EReal) = ((codeR x p : ℝ) : EReal) := by
    unfold code
    rw [Cert.Exchange.lit_127, Cert.Exchange.lit_neg_127, Ideal.div_coe hp.ne', ← EReal.coe_mul, ← EReal.coe_mul, Ideal.liftRound_coe,
      ← EReal.coe_strictMono.monotone.map_max, ← EReal.coe_strictMono.monotone.map_min, one_div]
    rfl
  unfold wire
  rw [hc, lit_unit, ← EReal.coe_mul, ← EReal.coe_mul]

/-- A code of zero is zero, whatever the peak. -/
theorem wire_zero (p : EReal) : wire 0 p = 0 := by
  have hc : code 0 p = 0 := by
    have h0 : Ideal.roundHalfEven 0 = 0 := by unfold Ideal.roundHalfEven; norm_num
    unfold code
    rw [zero_mul, Cert.Exchange.lit_127, Cert.Exchange.lit_neg_127, ← EReal.coe_zero, Ideal.liftRound_coe, h0,
      ← EReal.coe_strictMono.monotone.map_max, ← EReal.coe_strictMono.monotone.map_min]
    norm_num
  unfold wire
  rw [hc, zero_mul]

/-- The magnitude. -/
abbrev mag (x : EReal) : EReal := max x (-x)

theorem mag_coe (x : ℝ) : mag (x : EReal) = ((|x| : ℝ) : EReal) := by
  unfold mag
  rw [← EReal.coe_neg, ← EReal.coe_strictMono.monotone.map_max]
  rfl

theorem peak_le {v : Fin 512 → EReal} {b : EReal} : peak v ≤ b ↔ (∀ r, mag (v r) ≤ b) ∧ lit 0x1E3CE508#32 ≤ b := by
  unfold peak
  rw [max_le_iff, Finset.fold_max_le, lit_bot]
  simp

/-- The peak of a column of reals. -/
theorem peak_coe (f : Fin 512 → ℝ) : ∃ P : ℝ, peak (fun r => ((f r : ℝ) : EReal)) = (P : EReal) ∧ 12379400 / 2 ^ 90 ≤ P ∧ (∀ r, |f r| ≤ P)
    ∧ ∀ Q : ℝ, 12379400 / 2 ^ 90 ≤ Q → (∀ r, |f r| ≤ Q) → P ≤ Q := by
  have hself := (peak_le (v := fun r => ((f r : ℝ) : EReal))).mp le_rfl
  rw [lit_least] at hself
  obtain ⟨B, hB⟩ := (Set.finite_range fun r => |f r|).bddAbove
  have htop : peak (fun r => ((f r : ℝ) : EReal)) ≤ ((max B (12379400 / 2 ^ 90) : ℝ) : EReal) := peak_le.mpr
    ⟨fun r => by rw [mag_coe]; exact EReal.coe_le_coe_iff.mpr (le_max_of_le_left (hB ⟨r, rfl⟩)), by rw [lit_least]; exact EReal.coe_le_coe_iff.mpr (le_max_right _ _)⟩
  have h₁ : peak (fun r => ((f r : ℝ) : EReal)) ≠ ⊤ := (htop.trans_lt (EReal.coe_lt_top _)).ne
  have h₂ : peak (fun r => ((f r : ℝ) : EReal)) ≠ ⊥ := ((EReal.bot_lt_coe _).trans_le hself.2).ne'
  refine ⟨(peak fun r => ((f r : ℝ) : EReal)).toReal, (EReal.coe_toReal h₁ h₂).symm, ?_, fun r => ?_, fun Q h hf => ?_⟩
  · rw [← EReal.coe_le_coe_iff, EReal.coe_toReal h₁ h₂]; exact hself.2
  · rw [← EReal.coe_le_coe_iff, EReal.coe_toReal h₁ h₂, ← mag_coe]; exact hself.1 r
  · rw [← EReal.coe_le_coe_iff, EReal.coe_toReal h₁ h₂]
    exact peak_le.mpr ⟨fun r => by rw [mag_coe]; exact EReal.coe_le_coe_iff.mpr (hf r), by rw [lit_least]; exact EReal.coe_le_coe_iff.mpr h⟩

/-! ## The bound -/

/-- One element of the reference's result: the activation, or the value of its code. -/
abbrev sent (own : Prop) [Decidable own] (v : Fin 512 → EReal) (r : Fin 512) : EReal := if own then v r else wire (v r) (peak v)

/-- How far it may be from reference.py's. -/
abbrev room (own : Prop) [Decidable own] (y : Fin 512 → EReal) (r : Fin 512) : EReal :=
  (if own then 0 else peak (fun r' => exactAt (y r')) * lit 0x3B811B1E#32) + mag (y r) * lit 0x14461206#32

variable (own : Prop) [Decidable own]

theorem steps_nonneg (y : Fin 512 → EReal) : 0 ≤ (if own then 0 else peak (fun r' => exactAt (y r')) * lit 0x3B811B1E#32) := by
  split
  · exact le_rfl
  · refine mul_nonneg ?_ ?_
    · refine le_trans ?_ (peak_le.mp le_rfl).2
      rw [lit_least]; exact EReal.coe_nonneg.mpr (by norm_num)
    · rw [lit_step]; exact EReal.coe_nonneg.mpr (by norm_num)

/-- Where `y` is infinite there is any room, -/
theorem room_top (y : Fin 512 → EReal) (r : Fin 512) (h : mag (y r) = ⊤) : room own y r = ⊤ := by
  unfold room
  rw [h, lit_tiny, EReal.top_mul_coe_of_pos (by norm_num)]
  exact EReal.add_top_of_ne_bot ((EReal.bot_lt_zero.trans_le (steps_nonneg own y)).ne')

/-- where it is zero none is needed, -/
theorem near_zero (y : Fin 512 → EReal) (r : Fin 512) (h : y r = 0) :
    mag (sent own (fun r' => silu (y r')) r - exactAt (y r)) ≤ room own y r := by
  have hs : silu 0 = 0 := by rw [← EReal.coe_zero, silu_coe]; unfold act; norm_num
  have he : exactAt 0 = 0 := by rw [← EReal.coe_zero, exactAt_coe]; unfold exact; norm_num
  have h0 : sent own (fun r' => silu (y r')) r = 0 := by
    show (if own then silu (y r) else wire (silu (y r)) _) = 0
    rw [h, hs, wire_zero, ite_self]
  have hm : mag (0 : EReal) = 0 := by simp [mag]
  unfold room
  rw [h0, h, he, sub_zero, hm, zero_mul, add_zero]
  exact steps_nonneg own y

/-- and where the column is real the steps are large enough. -/
theorem near_real (y : Fin 512 → ℝ) (r : Fin 512) :
    mag (sent own (fun r' => silu (y r' : EReal)) r - exactAt (y r)) ≤ room own (fun r' => (y r' : EReal)) r := by
  have ha : (fun r' => silu (y r' : EReal)) = fun r' => ((act (y r') : ℝ) : EReal) := funext fun r' => silu_coe _
  have he : (fun r' => exactAt (y r' : EReal)) = fun r' => ((exact (y r') : ℝ) : EReal) := funext fun r' => exactAt_coe _
  obtain ⟨P, hP, hP₀, hP₁, hP₂⟩ := peak_coe fun r' => act (y r')
  obtain ⟨Q, hQ, hQ₀, hQ₁, hQ₂⟩ := peak_coe fun r' => exact (y r')
  have hk := Real.exp_pos (-60)
  have hk' := exp_neg_60
  have hn := act_near (y r)
  have hy := mul_le_mul_of_nonneg_left hk' (abs_nonneg (y r))
  unfold sent room
  rw [ha, he, hP, hQ, exactAt_coe, mag_coe, lit_step, lit_tiny]
  by_cases h : own
  · rw [if_pos h, if_pos h, ← EReal.coe_sub, mag_coe, zero_add, ← EReal.coe_mul, EReal.coe_le_coe_iff]
    linarith
  · rw [if_neg h, if_neg h, wire_coe _ _ (lt_of_lt_of_le (by norm_num) hP₀), ← EReal.coe_sub, mag_coe, ← EReal.coe_mul, ← EReal.coe_mul, ← EReal.coe_add,
      EReal.coe_le_coe_iff]
    have hw := wire_near _ P (lt_of_lt_of_le (by norm_num) hP₀) (hP₁ r)
    have hPQ : P ≤ Q * (1 + Real.exp (-60)) := hP₂ _ (by nlinarith [show (0 : ℝ) < 12379400 / 2 ^ 90 by norm_num]) fun r' =>
      (act_le (y r')).trans (mul_le_mul_of_nonneg_right (hQ₁ r') (by linarith))
    have hQpos : 0 < Q := lt_of_lt_of_le (by norm_num) hQ₀
    have hs : 0.003938 * P ≤ Q * (8461086 / 2 ^ 31) := by
      have h₁ : P ≤ Q * (1 + 12980742 / 2 ^ 110) := hPQ.trans (mul_le_mul_of_nonneg_left (by linarith) hQpos.le)
      norm_num at h₁ ⊢
      linarith
    exact (abs_sub_le _ (act (y r)) _).trans (add_le_add (hw.trans hs) (hn.trans hy))

/-- A column of reals, all scaled by one number. -/
theorem near (N : Fin 512 → ℝ) (s : EReal) (r : Fin 512) :
    mag (sent own (fun r' => silu ((N r' : EReal) * s)) r - exactAt ((N r : EReal) * s)) ≤ room own (fun r' => (N r' : EReal) * s) r := by
  have hinf (h : mag ((N r : EReal) * s) = ⊤) : mag (sent own (fun r' => silu ((N r' : EReal) * s)) r - exactAt ((N r : EReal) * s)) ≤ room own (fun r' => (N r' : EReal) * s) r := by
    rw [room_top own _ r h]; exact le_top
  induction s with
  | coe s => simpa only [EReal.coe_mul] using near_real own (fun r' => N r' * s) r
  | top =>
    rcases lt_trichotomy (N r) 0 with h | h | h
    · exact hinf (by rw [EReal.coe_mul_top_of_neg h]; simp [mag])
    · exact near_zero own _ r (by rw [h, EReal.coe_zero, zero_mul])
    · exact hinf (by rw [EReal.coe_mul_top_of_pos h]; simp [mag])
  | bot =>
    rcases lt_trichotomy (N r) 0 with h | h | h
    · exact hinf (by rw [EReal.coe_mul_bot_of_neg h]; simp [mag])
    · exact near_zero own _ r (by rw [h, EReal.coe_zero, zero_mul])
    · exact hinf (by rw [EReal.coe_mul_bot_of_pos h]; simp [mag])

end Cert.Near
-- ==== Proof.NearRef.lean ====
/-
# The reference against reference.py

The postcondition of the reference, read at an element: its result is as near to reference.py's activation as `Proof/Near.lean`
says.
-/
module

public import proofs.«01_k».proof.Proof.RefValue
public import proofs.«01_k».proof.Proof.Near
public import proofs.«01_k».proof.Proof.Gen.Post_near_exact

@[expose] public section

noncomputable section

namespace Cert.RefValue

open Cert.ReferenceIdeal Cert.ReferenceIdeal.Gen
open Idealize.ShloMosaic Idealize.ShloMosaic.TcCoe Idealize.ShloMosaic.ValueIdx
open Cert.Exchange (lit silu peak code wire inner)
open Cert.Near (exactAt mag sent room)
open scoped BigOperators

section Stages
variable {F : FTy → Type} [FloatOps F]

/-- reference.py's activation. -/
def exacted (y : FVec F S4096x2048 .f32) : FVec F S4096x2048 .f32 :=
  Host.divf y (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) y)))))

/-- A little more than half a step of the quantiser, at every element. -/
def steps (E : FVec F S4096x2048 .f32) : FVec F S4096x2048 .f32 :=
  shapeCast S4096x2048 (broadcastInDim S8x512x2048 ![0, 1, 2] bcast_S8x1x2048_S8x512x2048_0_1_2
    (mulf (peaks E) (broadcastInDim S8x1x2048 ![] bcast_S_S8x1x2048 (constant S_ .f32 0x3B811B1E#32)))) shapeCasts_S8x512x2048_S4096x2048

/-- The tolerance. -/
def tolerance (y : FVec F S4096x2048 .f32) : FVec F S4096x2048 .f32 :=
  addf (select (cmpi .eq (owner 0 1024#32) (owner 1 512#32)) (broadcastInDim S4096x2048 ![] bcast_S_S4096x2048 (id (constant S_ .f32 0x00000000#32))) (steps (exacted y)))
    (mulf (Host.absf y) (broadcastInDim S4096x2048 ![] bcast_S_S4096x2048 (constant S_ .f32 0x14461206#32)))

theorem post_eq (X : IVec S4096x4096 8) (W : IVec S4096x2048 8) (u v : FVec F S1 .f32) (Z : FVec F S4096x2048 .bf16) :
    Cert.Post_near_exact.fn X W u v Z
      = cmpf .ole (Host.absf (subf (extf .f32 Z bitsLt_bf16_f32) (exacted (scaled X W u v)))) (tolerance (scaled X W u v)) := rfl

end Stages

/-! ## At an element -/

theorem inner_coe (x w : Fin 4096 → BitVec 8) : inner x w = ((∑ k : Fin 4096, ((x k).toInt : ℝ) * ((w k).toInt : ℝ) : ℝ) : EReal) := by
  unfold Cert.Exchange.inner
  induction (Finset.univ : Finset (Fin 4096)) using Finset.induction_on with
  | empty => simp
  | insert a s h ih => rw [Finset.sum_insert h, Finset.sum_insert h, ih, EReal.coe_add, EReal.coe_mul]

variable (y : FVec Ideal S4096x2048 .f32)

theorem exacted_apply (i : S4096x2048.Idx) : exacted (F := Ideal) y i = exactAt (y i) := by
  have h1 : broadcastInDim (α := EReal) S4096x2048 ![] bcast_S_S4096x2048 (constant (F := Ideal) S_ .f32 0x3F800000#32) i = 1 := Ideal.ofBits_one_f32
  unfold exacted exactAt
  rw [hostDivf_apply, addf_apply, h1]
  rfl

theorem steps_apply (E : FVec Ideal S4096x2048 .f32) (g : Fin 8) (r : Fin 512) (j : Fin 2048) :
    steps (F := Ideal) E (ix2 (rowOf g r) j) = peakOf E g j * lit 0x3B811B1E#32 := by
  unfold steps
  refine (shapeCast_apply _ _ _ (ix3 g r j) (by
    rw [Shape.rowMajor_val_two, Shape.rowMajor_val_three]
    show (g.val * 512 + r.val) * 2048 + j.val = (512 * g.val + r.val) * 2048 + j.val
    omega)).trans ?_
  rw [spread_group, mulf_apply, peaks_apply]
  rfl

/-- The rows of group `g` and the columns of one device are the same device's. -/
abbrev own (g : Fin 8) (j : Fin 2048) : Prop := g.val / 2 = j.val / 512

theorem tolerance_apply (g : Fin 8) (r : Fin 512) (j : Fin 2048) :
    tolerance (F := Ideal) y (ix2 (rowOf g r) j) = room (own g j) (fun r' => y (ix2 (rowOf g r') j)) r := by
  have ho := same_owner (rowOf g r) j
  have hg : (rowOf g r).val / 1024 = g.val / 2 := by show (512 * g.val + r.val) / 1024 = g.val / 2; omega
  rw [hg] at ho
  have hp : peakOf (exacted (F := Ideal) y) g j = peak fun r' => exactAt (y (ix2 (rowOf g r') j)) := by
    unfold peakOf
    exact congrArg peak (funext fun r' => exacted_apply y _)
  have hz : broadcastInDim (α := EReal) S4096x2048 ![] bcast_S_S4096x2048 (id (constant (F := Ideal) S_ .f32 0x00000000#32)) (ix2 (rowOf g r) j) = 0 := Ideal.ofBits_zero_f32
  unfold tolerance room
  rw [addf_apply, select_apply, mulf_apply, steps_apply, hp, hz, show cmpi .eq (owner 0 1024#32) (owner 1 512#32) (ix2 (rowOf g r) j) = _ from ho]
  by_cases h : own g j
  · rw [if_pos h, decide_eq_true h]; rfl
  · rw [if_neg h, decide_eq_false h]; rfl

/-- The postcondition holds of the reference's result. -/
theorem post_holds (X : IVec S4096x4096 8) (W : IVec S4096x2048 8) (u v : FVec Ideal S1 .f32) :
    Cert.Post_near_exact.fn (F := Ideal) X W u v (result (F := Ideal) (activated (scaled X W u v))) = fun _ => 1#1 := by
  rw [post_eq]
  funext i
  have hi0 : (i 0).val < 4096 := (i 0).isLt
  let g : Fin 8 := ⟨(i 0).val / 512, by omega⟩
  let r : Fin 512 := ⟨(i 0).val % 512, by omega⟩
  let j : Fin 2048 := i 1
  have hi : i = ix2 (rowOf g r) j := by
    refine (eq_ix2 (n0 := 4096) (n1 := 2048) i).trans (congrArg (fun p : Fin 4096 => ix2 p j) (Fin.ext ?_))
    show (i 0).val = 512 * ((i 0).val / 512) + (i 0).val % 512
    omega
  let N : Fin 512 → ℝ := fun r' => ∑ k : Fin 4096, ((X (ix2 (rowOf g r') k)).toInt : ℝ) * ((W (ix2 k j)).toInt : ℝ)
  have hy : (fun r' : Fin 512 => scaled (F := Ideal) X W u v (ix2 (rowOf g r') j)) = fun r' => (N r' : EReal) * (u (ix1 0) * v (ix1 0)) :=
    funext fun r' => by rw [scaled_apply, inner_coe]
  have hres : result (F := Ideal) (activated (scaled X W u v)) (ix2 (rowOf g r) j)
      = sent (own g j) (fun r' => silu (scaled (F := Ideal) X W u v (ix2 (rowOf g r') j))) r := by
    have hp : peakOf (activated (F := Ideal) (scaled X W u v)) g j = peak fun r' => silu (scaled (F := Ideal) X W u v (ix2 (rowOf g r') j)) := by
      unfold peakOf
      exact congrArg peak (funext fun r' => activated_apply _ _)
    rw [result_apply, hp, activated_apply]
  have hnear : mag (result (F := Ideal) (activated (scaled X W u v)) (ix2 (rowOf g r) j) - exacted (F := Ideal) (scaled X W u v) (ix2 (rowOf g r) j))
      ≤ tolerance (F := Ideal) (scaled X W u v) (ix2 (rowOf g r) j) := by
    have hs := congrArg (fun y : Fin 512 → EReal => sent (own g j) (fun r' => silu (y r')) r) hy
    rw [hres, exacted_apply, tolerance_apply, hs, congrFun hy r, hy]
    exact Cert.Near.near (own g j) N _ r
  rw [hi]
  exact congrArg BitVec.ofBool (decide_eq_true hnear)

end Cert.RefValue
-- ==== Proof.lean ====
/-
# The certificate

The exchange is run once, over any reading of the floats (`Proof/Final.lean`); the frames of the kernel's two programs are
that run, and the value claim is its result, block by block (`Proof/Bridge.lean`). The postcondition is the reference's
alone (`Proof/NearRef.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Post_near_exact
public import proofs.«01_k».proof.Proof.Same
public import proofs.«01_k».proof.Proof.Final
public import proofs.«01_k».proof.Proof.Bridge
public import proofs.«01_k».proof.Proof.NearRef
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_kernel : Cert.quiescent_Kernel := fun m ρ _ => by
  rw [Cert.Exchange.same_defs, Cert.Exchange.same_main]
  exact (θ_run Cert.KernelIdeal.defs _ _).mono (fun _ h => ⟨fun c => (h.1 c).2, h.2⟩) (Cert.Exchange.run (F := Bits) m ρ)

theorem frame_kernelIdeal : Cert.quiescent_KernelIdeal := fun m ρ _ =>
  (θ_run Cert.KernelIdeal.defs _ _).mono (fun _ h => ⟨fun c => (h.1 c).2, h.2⟩) (Cert.Exchange.run (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem preserves : Cert.preserves_Kernel_KernelIdeal := trivial

theorem algebraic : Cert.algebraic_KernelIdeal_ReferenceIdeal := fun m g m' g' _ hm =>
  ⟨Cert.ReferenceIdeal.Value.res_main_v37 m' 0,
    (θ_run Cert.KernelIdeal.defs _ _).mono
      (fun _ h c => ⟨((h.1 c).1.trans (Cert.Exchange.outAt_eq m _ _ _ _ hm c)).trans (congrArg (fun v => Layout.block ⟨2, ![4096, 512]⟩ ⟨2, ![4096, 2048]⟩ 1 4 c v) (Cert.RefValue.res_eq m' 0).symm), (h.1 c).2⟩)
      (Cert.Exchange.run (F := Ideal) m g),
    (θ_run Cert.ReferenceIdeal.defs _ _).mono (fun _ h => h 0) (Cert.ReferenceIdeal.Value.run (F := Ideal) m' g')⟩

theorem holds : Cert.holds_ReferenceIdeal_near_exact := fun m g _ =>
  (θ_run Cert.ReferenceIdeal.defs _ _).mono
    (fun _ h c => ⟨(h c).2.1, (h c).2.2.1, (h c).2.2.2.1, (h c).2.2.2.2, by rw [(h c).1, Cert.RefValue.res_eq]; exact Cert.RefValue.post_holds _ _ _ _⟩)
    (Cert.ReferenceIdeal.Value.run (F := Ideal) m g)

theorem claim : Cert.Claim := ⟨Cert.Kernel.Gen.facts, Cert.KernelIdeal.Gen.facts, Cert.ReferenceIdeal.Gen.facts, Cert.Post_near_exact.Gen.facts,
  frame_kernel, frame_kernelIdeal, frame_referenceIdeal, preserves, algebraic, holds⟩

end Cert.Proof

end
